-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S1024x37x2048 : Shape := ⟨3, ![1024, 37, 2048]⟩
abbrev S1024x37x5 : Shape := ⟨3, ![1024, 37, 5]⟩
abbrev S1024x52 : Shape := ⟨2, ![1024, 52]⟩
abbrev S50x1024 : Shape := ⟨2, ![50, 1024]⟩
abbrev S54x1024 : Shape := ⟨2, ![54, 1024]⟩
abbrev S4x1024 : Shape := ⟨2, ![4, 1024]⟩
abbrev S1024x2048 : Shape := ⟨2, ![1024, 2048]⟩
abbrev S1024 : Shape := ⟨1, ![1024]⟩
abbrev S1024x5 : Shape := ⟨2, ![1024, 5]⟩
abbrev S1024x36x2048 : Shape := ⟨3, ![1024, 36, 2048]⟩
abbrev S_ : Shape := ⟨0, ![]⟩
abbrev S1024x36x5 : Shape := ⟨3, ![1024, 36, 5]⟩

class Facts : Prop where
  slices_S1024x37x2048_S1024x36x2048_0_1_0 : S1024x37x2048.Slices ![0, 1, 0] S1024x36x2048
  bcast_S_S1024x36x2048 : S_.BroadcastsInDim S1024x36x2048 (![] : Fin 0 → Fin S1024x36x2048.rank)
  reducesTo_S1024x36x2048_S_d0_1_2 : S1024x36x2048.ReducesTo [0, 1, 2] S_
  h_S_ : 0 < S_.numel
  slices_S1024x37x5_S1024x36x5_0_1_0 : S1024x37x5.Slices ![0, 1, 0] S1024x36x5
  bcast_S_S1024x36x5 : S_.BroadcastsInDim S1024x36x5 (![] : Fin 0 → Fin S1024x36x5.rank)
  reducesTo_S1024x36x5_S_d0_1_2 : S1024x36x5.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024x5 : S_.BroadcastsInDim S1024x5 (![] : Fin 0 → Fin S1024x5.rank)
  reducesTo_S1024x5_S_d0_1 : S1024x5.ReducesTo [0, 1] S_
  bcast_S_S50x1024 : S_.BroadcastsInDim S50x1024 (![] : Fin 0 → Fin S50x1024.rank)
  reducesTo_S50x1024_S_d0_1 : S50x1024.ReducesTo [0, 1] S_
  bcast_S_S54x1024 : S_.BroadcastsInDim S54x1024 (![] : Fin 0 → Fin S54x1024.rank)
  reducesTo_S54x1024_S_d0_1 : S54x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S1024x52 : S_.BroadcastsInDim S1024x52 (![] : Fin 0 → Fin S1024x52.rank)
  reducesTo_S1024x52_S_d0_1 : S1024x52.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg17 : FVec F S1024 .f32) (main_arg18 : FVec F S1024 .f32) (main_v81 : IVec S_ 1) (main_v82 : FVec F S1024 .f32) : IVec S_ 1 :=
  let main_v83 : IVec S1024 1 := cmpf .oeq main_arg17 main_v82
  let main_c_35 : IVec S_ 1 := constantI S_ 1 1#1
  let main_v84 : IVec S_ 1 := (fun x v => Host.reduce IntOp.andi x v reducesTo_S1024_S_d0 h_S_) main_v83 main_c_35
  let main_v85 : IVec S_ 1 := andi main_v81 main_v84
  let main_cst_36 : FVec F S_ .f32 := constant S_ .f32 0x00000000#32
  let main_v86 : FVec F S1024 .f32 := broadcastInDim S1024 ![] bcast_S_S1024 main_cst_36
  let main_v87 : IVec S1024 1 := cmpf .oeq main_arg18 main_v86
  let main_c_37 : IVec S_ 1 := constantI S_ 1 1#1
  let main_v88 : IVec S_ 1 := (fun x v => Host.reduce IntOp.andi x v reducesTo_S1024_S_d0 h_S_) main_v87 main_c_37
  let main_v89 : IVec S_ 1 := andi main_v85 main_v88
  main_v89

def fn_part4 {F : FTy → Type} [FloatOps F] (main_arg13 : FVec F S1024 .f32) (main_arg14 : FVec F S1024 .f32) (main_arg15 : FVec F S1024 .f32) (main_arg16 : FVec F S1024 .f32) (main_arg17 : FVec F S1024 .f32) (main_arg18 : FVec F S1024 .f32) (main_v65 : IVec S_ 1) (main_v66 : FVec F S1024 .f32) : IVec S_ 1 :=
  let main_v67 : IVec S1024 1 := cmpf .oeq main_arg13 main_v66
  let main_c_27 : IVec S_ 1 := constantI S_ 1 1#1
  let main_v68 : IVec S_ 1 := (fun x v => Host.reduce IntOp.andi x v reducesTo_S1024_S_d0 h_S_) main_v67 main_c_27
  let main_v69 : IVec S_ 1 := andi main_v65 main_v68
  let main_cst_28 : FVec F S_ .f32 := constant S_ .f32 0x00000000#32
  let main_v70 : FVec F S1024 .f32 := broadcastInDim S1024 ![] bcast_S_S1024 main_cst_28
  let main_v71 : IVec S1024 1 := cmpf .oeq main_arg14 main_v70
  let main_c_29 : IVec S_ 1 := constantI S_ 1 1#1
  let main_v72 : IVec S_ 1 := (fun x v => Host.reduce IntOp.andi x v reducesTo_S1024_S_d0 h_S_) main_v71 main_c_29
  let main_v73 : IVec S_ 1 := andi main_v69 main_v72
  let main_cst_30 : FVec F S_ .f32 := constant S_ .f32 0x3F800000#32
  let main_v74 : FVec F S1024 .f32 := broadcastInDim S1024 ![] bcast_S_S1024 main_cst_30
  let main_v75 : IVec S1024 1 := cmpf .oeq main_arg15 main_v74
  let main_c_31 : IVec S_ 1 := constantI S_ 1 1#1
  let main_v76 : IVec S_ 1 := (fun x v => Host.reduce IntOp.andi x v reducesTo_S1024_S_d0 h_S_) main_v75 main_c_31
  let main_v77 : IVec S_ 1 := andi main_v73 main_v76
  let main_cst_32 : FVec F S_ .f32 := constant S_ .f32 0x00000000#32
  let main_v78 : FVec F S1024 .f32 := broadcastInDim S1024 ![] bcast_S_S1024 main_cst_32
  let main_v79 : IVec S1024 1 := cmpf .oeq main_arg16 main_v78
  let main_c_33 : IVec S_ 1 := constantI S_ 1 1#1
  let main_v80 : IVec S_ 1 := (fun x v => Host.reduce IntOp.andi x v reducesTo_S1024_S_d0 h_S_) main_v79 main_c_33
  let main_v81 : IVec S_ 1 := andi main_v77 main_v80
  let main_cst_34 : FVec F S_ .f32 := constant S_ .f32 0x3F800000#32
  let main_v82 : FVec F S1024 .f32 := broadcastInDim S1024 ![] bcast_S_S1024 main_cst_34
  fn_part5 (F := F) main_arg17 main_arg18 main_v81 main_v82

def fn_part3 {F : FTy → Type} [FloatOps F] (main_arg8 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v49 : IVec S_ 1) (main_v50 : FVec F S1024 .f32) : IVec S_ 1 :=
  let main_v51 : IVec S1024 1 := cmpf .oeq main_arg8 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v49 main_v52
  let main_cst_20 : FVec F S_ .f32 := constant S_ .f32 0x00000000#32
  let main_v54 : FVec F S1024 .f32 := broadcastInDim S1024 ![] bcast_S_S1024 main_cst_20
  let main_v55 : IVec S1024 1 := cmpf .oeq main_arg10 main_v54
  let main_c_21 : IVec S_ 1 := constantI S_ 1 1#1
  let main_v56 : IVec S_ 1 := (fun x v => Host.reduce IntOp.andi x v reducesTo_S1024_S_d0 h_S_) main_v55 main_c_21
  let main_v57 : IVec S_ 1 := andi main_v53 main_v56
  let main_cst_22 : FVec F S_ .f32 := constant S_ .f32 0x3F800000#32
  let main_v58 : FVec F S1024 .f32 := broadcastInDim S1024 ![] bcast_S_S1024 main_cst_22
  let main_v59 : IVec S1024 1 := cmpf .oeq main_arg11 main_v58
  let main_c_23 : IVec S_ 1 := constantI S_ 1 1#1
  let main_v60 : IVec S_ 1 := (fun x v => Host.reduce IntOp.andi x v reducesTo_S1024_S_d0 h_S_) main_v59 main_c_23
  let main_v61 : IVec S_ 1 := andi main_v57 main_v60
  let main_cst_24 : FVec F S_ .f32 := constant S_ .f32 0x00000000#32
  let main_v62 : FVec F S1024 .f32 := broadcastInDim S1024 ![] bcast_S_S1024 main_cst_24
  let main_v63 : IVec S1024 1 := cmpf .oeq main_arg12 main_v62
  let main_c_25 : IVec S_ 1 := constantI S_ 1 1#1
  let main_v64 : IVec S_ 1 := (fun x v => Host.reduce IntOp.andi x v reducesTo_S1024_S_d0 h_S_) main_v63 main_c_25
  let main_v65 : IVec S_ 1 := andi main_v61 main_v64
  let main_cst_26 : FVec F S_ .f32 := constant S_ .f32 0x3F800000#32
  let main_v66 : FVec F S1024 .f32 := broadcastInDim S1024 ![] bcast_S_S1024 main_cst_26
  fn_part4 (F := F) main_arg13 main_arg14 main_arg15 main_arg16 main_arg17 main_arg18 main_v65 main_v66

def fn_part2 {F : FTy → Type} [FloatOps F] (main_arg2 : IVec S1024x52 32) (main_arg3 : IVec S1024x52 32) (main_arg8 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v30 : IVec S_ 1) (main_v33 : IVec S4x1024 1) (main_c_11 : IVec S_ 1) : IVec S_ 1 :=
  let main_v34 : IVec S_ 1 := (fun x v => Host.reduce IntOp.andi x v reducesTo_S4x1024_S_d0_1 h_S_) main_v33 main_c_11
  let main_v35 : IVec S_ 1 := andi main_v30 main_v34
  let main_c_12 : IVec S_ 32 := constantI S_ 32 0#32
  let main_v36 : IVec S1024x52 32 := broadcastInDim S1024x52 ![] bcast_S_S1024x52 main_c_12
  let main_v37 : IVec S1024x52 1 := cmpi .sge main_arg2 main_v36
  let main_c_13 : IVec S_ 32 := constantI S_ 32 50#32
  let main_v38 : IVec S1024x52 32 := broadcastInDim S1024x52 ![] bcast_S_S1024x52 main_c_13
  let main_v39 : IVec S1024x52 1 := cmpi .slt main_arg2 main_v38
  let main_v40 : IVec S1024x52 1 := andi main_v37 main_v39
  let main_c_14 : IVec S_ 1 := constantI S_ 1 1#1
  let main_v41 : IVec S_ 1 := (fun x v => Host.reduce IntOp.andi x v reducesTo_S1024x52_S_d0_1 h_S_) main_v40 main_c_14
  let main_v42 : IVec S_ 1 := andi main_v35 main_v41
  let main_c_15 : IVec S_ 32 := constantI S_ 32 0#32
  let main_v43 : IVec S1024x52 32 := broadcastInDim S1024x52 ![] bcast_S_S1024x52 main_c_15
  let main_v44 : IVec S1024x52 1 := cmpi .sge main_arg3 main_v43
  let main_c_16 : IVec S_ 32 := constantI S_ 32 3#32
  let main_v45 : IVec S1024x52 32 := broadcastInDim S1024x52 ![] bcast_S_S1024x52 main_c_16
  let main_v46 : IVec S1024x52 1 := cmpi .slt main_arg3 main_v45
  let main_v47 : IVec S1024x52 1 := andi main_v44 main_v46
  let main_c_17 : IVec S_ 1 := constantI S_ 1 1#1
  let main_v48 : IVec S_ 1 := (fun x v => Host.reduce IntOp.andi x v reducesTo_S1024x52_S_d0_1 h_S_) main_v47 main_c_17
  let main_v49 : IVec S_ 1 := andi main_v42 main_v48
  let main_cst_18 : FVec F S_ .f32 := constant S_ .f32 0x00000000#32
  let main_v50 : FVec F S1024 .f32 := broadcastInDim S1024 ![] bcast_S_S1024 main_cst_18
  fn_part3 (F := F) main_arg8 main_arg10 main_arg11 main_arg12 main_arg13 main_arg14 main_arg15 main_arg16 main_arg17 main_arg18 main_v49 main_v50

def fn_part1 {F : FTy → Type} [FloatOps F] (main_arg2 : IVec S1024x52 32) (main_arg3 : IVec S1024x52 32) (main_arg4 : FVec F S50x1024 .f32) (main_arg5 : FVec F S54x1024 .f32) (main_arg6 : FVec F S4x1024 .f32) (main_arg8 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v15 : IVec S_ 1) (main_v16 : FVec F S1024x5 .f32) (main_cst_4 : FVec F S_ .f32) : IVec S_ 1 :=
  let main_v17 : FVec F S1024x5 .f32 := broadcastInDim S1024x5 ![] bcast_S_S1024x5 main_cst_4
  let main_v18 : IVec S1024x5 1 := cmpf .olt main_v16 main_v17
  let main_c_5 : IVec S_ 1 := constantI S_ 1 1#1
  let main_v19 : IVec S_ 1 := (fun x v => Host.reduce IntOp.andi x v reducesTo_S1024x5_S_d0_1 h_S_) main_v18 main_c_5
  let main_v20 : IVec S_ 1 := andi main_v15 main_v19
  let main_v21 : FVec F S50x1024 .f32 := Host.absf main_arg4
  let main_cst_6 : FVec F S_ .f32 := constant S_ .f32 0x7F800000#32
  let main_v22 : FVec F S50x1024 .f32 := broadcastInDim S50x1024 ![] bcast_S_S50x1024 main_cst_6
  let main_v23 : IVec S50x1024 1 := cmpf .olt main_v21 main_v22
  let main_c_7 : IVec S_ 1 := constantI S_ 1 1#1
  let main_v24 : IVec S_ 1 := (fun x v => Host.reduce IntOp.andi x v reducesTo_S50x1024_S_d0_1 h_S_) main_v23 main_c_7
  let main_v25 : IVec S_ 1 := andi main_v20 main_v24
  let main_v26 : FVec F S54x1024 .f32 := Host.absf main_arg5
  let main_cst_8 : FVec F S_ .f32 := constant S_ .f32 0x7F800000#32
  let main_v27 : FVec F S54x1024 .f32 := broadcastInDim S54x1024 ![] bcast_S_S54x1024 main_cst_8
  let main_v28 : IVec S54x1024 1 := cmpf .olt main_v26 main_v27
  let main_c_9 : IVec S_ 1 := constantI S_ 1 1#1
  let main_v29 : IVec S_ 1 := (fun x v => Host.reduce IntOp.andi x v reducesTo_S54x1024_S_d0_1 h_S_) main_v28 main_c_9
  let main_v30 : IVec S_ 1 := andi main_v25 main_v29
  let main_v31 : FVec F S4x1024 .f32 := Host.absf main_arg6
  let main_cst_10 : FVec F S_ .f32 := constant S_ .f32 0x7F800000#32
  let main_v32 : FVec F S4x1024 .f32 := broadcastInDim S4x1024 ![] bcast_S_S4x1024 main_cst_10
  let main_v33 : IVec S4x1024 1 := cmpf .olt main_v31 main_v32
  let main_c_11 : IVec S_ 1 := constantI S_ 1 1#1
  fn_part2 (F := F) main_arg2 main_arg3 main_arg8 main_arg10 main_arg11 main_arg12 main_arg13 main_arg14 main_arg15 main_arg16 main_arg17 main_arg18 main_v30 main_v33 main_c_11

def fn {F : FTy → Type} [FloatOps F] (main_arg0 : FVec F S1024x37x2048 .f32) (main_arg1 : FVec F S1024x37x5 .f32) (main_arg2 : IVec S1024x52 32) (main_arg3 : IVec S1024x52 32) (main_arg4 : FVec F S50x1024 .f32) (main_arg5 : FVec F S54x1024 .f32) (main_arg6 : FVec F S4x1024 .f32) (main_arg7 : FVec F S1024x2048 .f32) (main_arg8 : FVec F S1024 .f32) (main_arg9 : FVec F S1024x5 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) : IVec S_ 1 :=
  let main_v0 : FVec F S1024x36x2048 .f32 := (extractStridedSlice S1024x36x2048 ![0, 1, 0] · slices_S1024x37x2048_S1024x36x2048_0_1_0) main_arg0
  let main_v1 : FVec F S1024x36x2048 .f32 := Host.absf main_v0
  let main_cst : FVec F S_ .f32 := constant S_ .f32 0x7F800000#32
  let main_v2 : FVec F S1024x36x2048 .f32 := broadcastInDim S1024x36x2048 ![] bcast_S_S1024x36x2048 main_cst
  let main_v3 : IVec S1024x36x2048 1 := cmpf .olt main_v1 main_v2
  let main_c : IVec S_ 1 := constantI S_ 1 1#1
  let main_v4 : IVec S_ 1 := (fun x v => Host.reduce IntOp.andi x v reducesTo_S1024x36x2048_S_d0_1_2 h_S_) main_v3 main_c
  let main_v5 : FVec F S1024x36x5 .f32 := (extractStridedSlice S1024x36x5 ![0, 1, 0] · slices_S1024x37x5_S1024x36x5_0_1_0) main_arg1
  let main_v6 : FVec F S1024x36x5 .f32 := Host.absf main_v5
  let main_cst_0 : FVec F S_ .f32 := constant S_ .f32 0x7F800000#32
  let main_v7 : FVec F S1024x36x5 .f32 := broadcastInDim S1024x36x5 ![] bcast_S_S1024x36x5 main_cst_0
  let main_v8 : IVec S1024x36x5 1 := cmpf .olt main_v6 main_v7
  let main_c_1 : IVec S_ 1 := constantI S_ 1 1#1
  let main_v9 : IVec S_ 1 := (fun x v => Host.reduce IntOp.andi x v reducesTo_S1024x36x5_S_d0_1_2 h_S_) main_v8 main_c_1
  let main_v10 : IVec S_ 1 := andi main_v4 main_v9
  let main_v11 : FVec F S1024x2048 .f32 := Host.absf main_arg7
  let main_cst_2 : FVec F S_ .f32 := constant S_ .f32 0x7F800000#32
  let main_v12 : FVec F S1024x2048 .f32 := broadcastInDim S1024x2048 ![] bcast_S_S1024x2048 main_cst_2
  let main_v13 : IVec S1024x2048 1 := cmpf .olt main_v11 main_v12
  let main_c_3 : IVec S_ 1 := constantI S_ 1 1#1
  let main_v14 : IVec S_ 1 := (fun x v => Host.reduce IntOp.andi x v reducesTo_S1024x2048_S_d0_1 h_S_) main_v13 main_c_3
  let main_v15 : IVec S_ 1 := andi main_v10 main_v14
  let main_v16 : FVec F S1024x5 .f32 := Host.absf main_arg9
  let main_cst_4 : FVec F S_ .f32 := constant S_ .f32 0x7F800000#32
  fn_part1 (F := F) main_arg2 main_arg3 main_arg4 main_arg5 main_arg6 main_arg8 main_arg10 main_arg11 main_arg12 main_arg13 main_arg14 main_arg15 main_arg16 main_arg17 main_arg18 main_v15 main_v16 main_cst_4
-- ==== Kernel.lean ====
abbrev S1024x37x2048 : Shape := ⟨3, ![1024, 37, 2048]⟩
abbrev S1024x37x5 : Shape := ⟨3, ![1024, 37, 5]⟩
abbrev S1024x52 : Shape := ⟨2, ![1024, 52]⟩
abbrev S50x1024 : Shape := ⟨2, ![50, 1024]⟩
abbrev S54x1024 : Shape := ⟨2, ![54, 1024]⟩
abbrev S4x1024 : Shape := ⟨2, ![4, 1024]⟩
abbrev S1024x2048 : Shape := ⟨2, ![1024, 2048]⟩
abbrev S1024 : Shape := ⟨1, ![1024]⟩
abbrev S1024x5 : Shape := ⟨2, ![1024, 5]⟩
abbrev S37x1024x2048 : Shape := ⟨3, ![37, 1024, 2048]⟩
abbrev S37x1024x5 : Shape := ⟨3, ![37, 1024, 5]⟩
abbrev S2048x1024 : Shape := ⟨2, ![2048, 1024]⟩
abbrev S5x1024 : Shape := ⟨2, ![5, 1024]⟩
abbrev S108x1024 : Shape := ⟨2, ![108, 1024]⟩
abbrev S_ : Shape := ⟨0, ![]⟩
abbrev S1 : Shape := ⟨1, ![1]⟩
abbrev S64x16x52 : Shape := ⟨3, ![64, 16, 52]⟩
abbrev S64x52x16 : Shape := ⟨3, ![64, 52, 16]⟩
abbrev S53248x1 : Shape := ⟨2, ![53248, 1]⟩
abbrev S89x1024x1024 : Shape := ⟨3, ![89, 1024, 1024]⟩
abbrev S37x16x2048 : Shape := ⟨3, ![37, 16, 2048]⟩
abbrev S37x16x5 : Shape := ⟨3, ![37, 16, 5]⟩
abbrev S832x1 : Shape := ⟨2, ![832, 1]⟩
abbrev S89x16x1024 : Shape := ⟨3, ![89, 16, 1024]⟩
abbrev S36x16x2048 : Shape := ⟨3, ![36, 16, 2048]⟩
abbrev S576x2048 : Shape := ⟨2, ![576, 2048]⟩
abbrev S576x1024 : Shape := ⟨2, ![576, 1024]⟩
abbrev S36x16x5 : Shape := ⟨3, ![36, 16, 5]⟩
abbrev S576x5 : Shape := ⟨2, ![576, 5]⟩
abbrev S1x1024 : Shape := ⟨2, ![1, 1024]⟩
abbrev S1x1 : Shape := ⟨2, ![1, 1]⟩
abbrev S576 : Shape := ⟨1, ![576]⟩
abbrev S576x1 : Shape := ⟨2, ![576, 1]⟩
abbrev S36x16x1024 : Shape := ⟨3, ![36, 16, 1024]⟩
abbrev S1x1x1024 : Shape := ⟨3, ![1, 1, 1024]⟩
abbrev S1x16x1024 : Shape := ⟨3, ![1, 16, 1024]⟩
abbrev S832x108 : Shape := ⟨2, ![832, 108]⟩
abbrev S832x1024 : Shape := ⟨2, ![832, 1024]⟩
abbrev S832 : Shape := ⟨1, ![832]⟩
abbrev S52x16x1024 : Shape := ⟨3, ![52, 16, 1024]⟩
abbrev S1024x89x1024 : Shape := ⟨3, ![1024, 89, 1024]⟩

abbrev nBuf : Space → Nat
  | .hbm => 40
  | .vmem => 11
  | .smem => 0
  | _ => 0

abbrev bufTy : (tb : Table) → Fin (tcTables nBuf tb) → BufTy
  | .hbm, ⟨0, _⟩ => ⟨S1024x37x2048, .f32⟩
  | .hbm, ⟨1, _⟩ => ⟨S1024x37x5, .f32⟩
  | .hbm, ⟨2, _⟩ => ⟨S1024x52, .i32⟩
  | .hbm, ⟨3, _⟩ => ⟨S1024x52, .i32⟩
  | .hbm, ⟨4, _⟩ => ⟨S50x1024, .f32⟩
  | .hbm, ⟨5, _⟩ => ⟨S54x1024, .f32⟩
  | .hbm, ⟨6, _⟩ => ⟨S4x1024, .f32⟩
  | .hbm, ⟨7, _⟩ => ⟨S1024x2048, .f32⟩
  | .hbm, ⟨8, _⟩ => ⟨S1024, .f32⟩
  | .hbm, ⟨9, _⟩ => ⟨S1024x5, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S37x1024x2048, .f32⟩
  | .hbm, ⟨20, _⟩ => ⟨S37x1024x5, .f32⟩
  | .hbm, ⟨21, _⟩ => ⟨S2048x1024, .f32⟩
  | .hbm, ⟨22, _⟩ => ⟨S2048x1024, .bf16⟩
  | .hbm, ⟨23, _⟩ => ⟨S5x1024, .f32⟩
  | .hbm, ⟨24, _⟩ => ⟨S5x1024, .bf16⟩
  | .hbm, ⟨25, _⟩ => ⟨S108x1024, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1024, .i32⟩
  | .hbm, ⟨30, _⟩ => ⟨S1024x52, .i32⟩
  | .hbm, ⟨31, _⟩ => ⟨S_, .i32⟩
  | .hbm, ⟨32, _⟩ => ⟨S1024x52, .i32⟩
  | .hbm, ⟨33, _⟩ => ⟨S1024x52, .i32⟩
  | .hbm, ⟨34, _⟩ => ⟨S1024x52, .i32⟩
  | .hbm, ⟨35, _⟩ => ⟨S64x16x52, .i32⟩
  | .hbm, ⟨36, _⟩ => ⟨S64x52x16, .i32⟩
  | .hbm, ⟨37, _⟩ => ⟨S53248x1, .i32⟩
  | .hbm, ⟨38, _⟩ => ⟨S89x1024x1024, .f32⟩
  | .hbm, ⟨39, _⟩ => ⟨S1024x89x1024, .f32⟩
  | .local _ .vmem, ⟨0, _⟩ => ⟨S37x16x2048, .f32⟩
  | .local _ .vmem, ⟨1, _⟩ => ⟨S37x16x2048, .f32⟩
  | .local _ .vmem, ⟨2, _⟩ => ⟨S37x16x5, .f32⟩
  | .local _ .vmem, ⟨3, _⟩ => ⟨S37x16x5, .f32⟩
  | .local _ .vmem, ⟨4, _⟩ => ⟨S832x1, .i32⟩
  | .local _ .vmem, ⟨5, _⟩ => ⟨S832x1, .i32⟩
  | .local _ .vmem, ⟨6, _⟩ => ⟨S108x1024, .f32⟩
  | .local _ .vmem, ⟨7, _⟩ => ⟨S2048x1024, .bf16⟩
  | .local _ .vmem, ⟨8, _⟩ => ⟨S5x1024, .bf16⟩
  | .local _ .vmem, ⟨9, _⟩ => ⟨S89x16x1024, .f32⟩
  | .local _ .vmem, ⟨10, _⟩ => ⟨S89x16x1024, .f32⟩
  | _, _ => ⟨S1024x37x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S37x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S37x16x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S108x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S89x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x37x2048 : Shape := ⟨3, ![1024, 37, 2048]⟩
abbrev S1024x37x5 : Shape := ⟨3, ![1024, 37, 5]⟩
abbrev S1024x52 : Shape := ⟨2, ![1024, 52]⟩
abbrev S50x1024 : Shape := ⟨2, ![50, 1024]⟩
abbrev S54x1024 : Shape := ⟨2, ![54, 1024]⟩
abbrev S4x1024 : Shape := ⟨2, ![4, 1024]⟩
abbrev S1024x2048 : Shape := ⟨2, ![1024, 2048]⟩
abbrev S1024 : Shape := ⟨1, ![1024]⟩
abbrev S1024x5 : Shape := ⟨2, ![1024, 5]⟩
abbrev S_ : Shape := ⟨0, ![]⟩
abbrev S1 : Shape := ⟨1, ![1]⟩
abbrev S1024x37 : Shape := ⟨2, ![1024, 37]⟩
abbrev S1024x89 : Shape := ⟨2, ![1024, 89]⟩
abbrev S36 : Shape := ⟨1, ![36]⟩
abbrev S37 : Shape := ⟨1, ![37]⟩
abbrev S52 : Shape := ⟨1, ![52]⟩
abbrev S89 : Shape := ⟨1, ![89]⟩
abbrev S1x89 : Shape := ⟨2, ![1, 89]⟩
abbrev S1024x89x1 : Shape := ⟨3, ![1024, 89, 1]⟩
abbrev S1x1x1 : Shape := ⟨3, ![1, 1, 1]⟩
abbrev S1024x89x1024 : Shape := ⟨3, ![1024, 89, 1024]⟩
abbrev S1024x36x2048 : Shape := ⟨3, ![1024, 36, 2048]⟩
abbrev S1024x36x1024 : Shape := ⟨3, ![1024, 36, 1024]⟩
abbrev S1x1x1024 : Shape := ⟨3, ![1, 1, 1024]⟩
abbrev S1024x36 : Shape := ⟨2, ![1024, 36]⟩
abbrev S1024x36x1 : Shape := ⟨3, ![1024, 36, 1]⟩
abbrev S1024x36x5 : Shape := ⟨3, ![1024, 36, 5]⟩

abbrev nBuf : Space → Nat
  | .hbm => 311
  | .vmem => 0
  | .smem => 0
  | _ => 0

abbrev hbmTy0_0 (i : Nat) : BufTy := match i % 128 with
  | 0 => ⟨S1024x37x2048, .f32⟩
  | 1 => ⟨S1024x37x5, .f32⟩
  | 2 => ⟨S1024x52, .i32⟩
  | 3 => ⟨S1024x52, .i32⟩
  | 4 => ⟨S50x1024, .f32⟩
  | 5 => ⟨S54x1024, .f32⟩
  | 6 => ⟨S4x1024, .f32⟩
  | 7 => ⟨S1024x2048, .f32⟩
  | 8 => ⟨S1024, .f32⟩
  | 9 => ⟨S1024x5, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S_, .i32⟩
  | 20 => ⟨S1, .i32⟩
  | 21 => ⟨S_, .i32⟩
  | 22 => ⟨S1024, .i32⟩
  | 23 => ⟨S1024x52, .i32⟩
  | 24 => ⟨S_, .i32⟩
  | 25 => ⟨S1024x37, .i32⟩
  | 26 => ⟨S_, .i32⟩
  | 27 => ⟨S1, .i32⟩
  | 28 => ⟨S_, .i32⟩
  | 29 => ⟨S1024, .i32⟩
  | 30 => ⟨S1024x37, .i32⟩
  | 31 => ⟨S1024x89, .i32⟩
  | 32 => ⟨S_, .i32⟩
  | 33 => ⟨S1024x37, .i32⟩
  | 34 => ⟨S_, .i32⟩
  | 35 => ⟨S1024x52, .i32⟩
  | 36 => ⟨S1024x52, .i32⟩
  | 37 => ⟨S1024x89, .i32⟩
  | 38 => ⟨S_, .i32⟩
  | 39 => ⟨S1, .i32⟩
  | 40 => ⟨S_, .i32⟩
  | 41 => ⟨S36, .i32⟩
  | 42 => ⟨S37, .i32⟩
  | 43 => ⟨S52, .i32⟩
  | 44 => ⟨S_, .i32⟩
  | 45 => ⟨S52, .i32⟩
  | 46 => ⟨S52, .i32⟩
  | 47 => ⟨S89, .i32⟩
  | 48 => ⟨S1x89, .i32⟩
  | 49 => ⟨S1024x89, .i32⟩
  | 50 => ⟨S_, .i32⟩
  | 51 => ⟨S1024x89, .i32⟩
  | 52 => ⟨S1024x89, .i1⟩
  | 53 => ⟨S_, .i32⟩
  | 54 => ⟨S1024x89, .i32⟩
  | 55 => ⟨S1024x89, .i32⟩
  | 56 => ⟨S1024x89, .i32⟩
  | 57 => ⟨S1024x89x1, .i32⟩
  | 58 => ⟨S1, .i32⟩
  | 59 => ⟨S_, .i32⟩
  | 60 => ⟨S1024x89x1, .i32⟩
  | 61 => ⟨S1024x89x1, .i1⟩
  | 62 => ⟨S1x1x1, .i32⟩
  | 63 => ⟨S1024x89x1, .i32⟩
  | 64 => ⟨S1024x89x1, .i1⟩
  | 65 => ⟨S1024x89x1, .i1⟩
  | 66 => ⟨S_, .i1⟩
  | 67 => ⟨S1024x89, .i1⟩
  | 68 => ⟨S1024x89x1024, .f32⟩
  | 69 => ⟨S1024x89x1024, .i1⟩
  | 70 => ⟨S_, .f32⟩
  | 71 => ⟨S1024x89x1024, .f32⟩
  | 72 => ⟨S1024x89x1024, .f32⟩
  | 73 => ⟨S_, .i32⟩
  | 74 => ⟨S1024x89, .i32⟩
  | 75 => ⟨S1024x89, .i1⟩
  | 76 => ⟨S_, .i32⟩
  | 77 => ⟨S1024x89, .i32⟩
  | 78 => ⟨S1024x89, .i32⟩
  | 79 => ⟨S1024x89, .i32⟩
  | 80 => ⟨S1024x89x1, .i32⟩
  | 81 => ⟨S1, .i32⟩
  | 82 => ⟨S_, .i32⟩
  | 83 => ⟨S1024x89x1, .i32⟩
  | 84 => ⟨S1024x89x1, .i1⟩
  | 85 => ⟨S1x1x1, .i32⟩
  | 86 => ⟨S1024x89x1, .i32⟩
  | 87 => ⟨S1024x89x1, .i1⟩
  | 88 => ⟨S1024x89x1, .i1⟩
  | 89 => ⟨S_, .i1⟩
  | 90 => ⟨S1024x89, .i1⟩
  | 91 => ⟨S1024x89x1024, .f32⟩
  | 92 => ⟨S1024x89x1024, .i1⟩
  | 93 => ⟨S_, .f32⟩
  | 94 => ⟨S1024x89x1024, .f32⟩
  | 95 => ⟨S1024x89x1024, .f32⟩
  | 96 => ⟨S_, .i32⟩
  | 97 => ⟨S1024x89, .i32⟩
  | 98 => ⟨S1024x89, .i1⟩
  | 99 => ⟨S_, .i32⟩
  | 100 => ⟨S1024x89, .i32⟩
  | 101 => ⟨S1024x89, .i32⟩
  | 102 => ⟨S1024x89, .i32⟩
  | 103 => ⟨S1024x89x1, .i32⟩
  | 104 => ⟨S1, .i32⟩
  | 105 => ⟨S_, .i32⟩
  | 106 => ⟨S1024x89x1, .i32⟩
  | 107 => ⟨S1024x89x1, .i1⟩
  | 108 => ⟨S1x1x1, .i32⟩
  | 109 => ⟨S1024x89x1, .i32⟩
  | 110 => ⟨S1024x89x1, .i1⟩
  | 111 => ⟨S1024x89x1, .i1⟩
  | 112 => ⟨S_, .i1⟩
  | 113 => ⟨S1024x89, .i1⟩
  | 114 => ⟨S1024x89x1024, .f32⟩
  | 115 => ⟨S1024x89x1024, .i1⟩
  | 116 => ⟨S_, .f32⟩
  | 117 => ⟨S1024x89x1024, .f32⟩
  | 118 => ⟨S1024x89x1024, .f32⟩
  | 119 => ⟨S1024x89x1024, .f32⟩
  | 120 => ⟨S1024x89x1024, .f32⟩
  | 121 => ⟨S1024x36x2048, .f32⟩
  | 122 => ⟨S1024x36x1024, .f32⟩
  | 123 => ⟨S1x1x1024, .f32⟩
  | 124 => ⟨S1024x36x1024, .f32⟩
  | 125 => ⟨S1024x36x1024, .f32⟩
  | 126 => ⟨S_, .f32⟩
  | 127 => ⟨S1024x36, .f32⟩
  | _ => ⟨S1024x37x2048, .f32⟩

abbrev hbmTy0_1 (i : Nat) : BufTy := match i % 128 with
  | 0 => ⟨S1024x36x1, .f32⟩
  | 1 => ⟨S_, .f32⟩
  | 2 => ⟨S1024x36x1, .f32⟩
  | 3 => ⟨S1024x36x1, .f32⟩
  | 4 => ⟨S_, .i32⟩
  | 5 => ⟨S_, .f32⟩
  | 6 => ⟨S1024x36, .f32⟩
  | 7 => ⟨S1024x36x1, .f32⟩
  | 8 => ⟨S_, .f32⟩
  | 9 => ⟨S1024x36x1, .f32⟩
  | 10 => ⟨S1024x36x1, .f32⟩
  | 11 => ⟨S1024x36x1024, .f32⟩
  | 12 => ⟨S1024x36x1024, .f32⟩
  | 13 => ⟨S1024x36x1024, .f32⟩
  | 14 => ⟨S_, .f32⟩
  | 15 => ⟨S_, .f32⟩
  | 16 => ⟨S_, .f32⟩
  | 17 => ⟨S_, .f32⟩
  | 18 => ⟨S1024x36, .f32⟩
  | 19 => ⟨S1024x36x1, .f32⟩
  | 20 => ⟨S1024x36x1, .f32⟩
  | 21 => ⟨S1024x36x1, .f32⟩
  | 22 => ⟨S_, .f32⟩
  | 23 => ⟨S_, .i1⟩
  | 24 => ⟨S_, .f32⟩
  | 25 => ⟨S_, .f32⟩
  | 26 => ⟨S1024x36x1, .f32⟩
  | 27 => ⟨S1024x36x1, .f32⟩
  | 28 => ⟨S1024x36x1024, .f32⟩
  | 29 => ⟨S1024x36x1024, .f32⟩
  | 30 => ⟨S_, .f32⟩
  | 31 => ⟨S1024x36x1, .f32⟩
  | 32 => ⟨S1024x36x1, .f32⟩
  | 33 => ⟨S1024x36x1, .f32⟩
  | 34 => ⟨S1024x36x1024, .f32⟩
  | 35 => ⟨S1024x36x1024, .f32⟩
  | 36 => ⟨S1x1x1024, .f32⟩
  | 37 => ⟨S1024x36x1024, .f32⟩
  | 38 => ⟨S1024x36x1024, .f32⟩
  | 39 => ⟨S1x1x1024, .f32⟩
  | 40 => ⟨S1024x36x1024, .f32⟩
  | 41 => ⟨S1024x36x1024, .f32⟩
  | 42 => ⟨S1024x36x5, .f32⟩
  | 43 => ⟨S1024x36x1024, .f32⟩
  | 44 => ⟨S1x1x1024, .f32⟩
  | 45 => ⟨S1024x36x1024, .f32⟩
  | 46 => ⟨S1024x36x1024, .f32⟩
  | 47 => ⟨S_, .f32⟩
  | 48 => ⟨S1024x36, .f32⟩
  | 49 => ⟨S1024x36x1, .f32⟩
  | 50 => ⟨S_, .f32⟩
  | 51 => ⟨S1024x36x1, .f32⟩
  | 52 => ⟨S1024x36x1, .f32⟩
  | 53 => ⟨S_, .i32⟩
  | 54 => ⟨S_, .f32⟩
  | 55 => ⟨S1024x36, .f32⟩
  | 56 => ⟨S1024x36x1, .f32⟩
  | 57 => ⟨S_, .f32⟩
  | 58 => ⟨S1024x36x1, .f32⟩
  | 59 => ⟨S1024x36x1, .f32⟩
  | 60 => ⟨S1024x36x1024, .f32⟩
  | 61 => ⟨S1024x36x1024, .f32⟩
  | 62 => ⟨S1024x36x1024, .f32⟩
  | 63 => ⟨S_, .f32⟩
  | 64 => ⟨S_, .f32⟩
  | 65 => ⟨S_, .f32⟩
  | 66 => ⟨S_, .f32⟩
  | 67 => ⟨S1024x36, .f32⟩
  | 68 => ⟨S1024x36x1, .f32⟩
  | 69 => ⟨S1024x36x1, .f32⟩
  | 70 => ⟨S1024x36x1, .f32⟩
  | 71 => ⟨S_, .f32⟩
  | 72 => ⟨S_, .i1⟩
  | 73 => ⟨S_, .f32⟩
  | 74 => ⟨S_, .f32⟩
  | 75 => ⟨S1024x36x1, .f32⟩
  | 76 => ⟨S1024x36x1, .f32⟩
  | 77 => ⟨S1024x36x1024, .f32⟩
  | 78 => ⟨S1024x36x1024, .f32⟩
  | 79 => ⟨S_, .f32⟩
  | 80 => ⟨S1024x36x1, .f32⟩
  | 81 => ⟨S1024x36x1, .f32⟩
  | 82 => ⟨S1024x36x1, .f32⟩
  | 83 => ⟨S1024x36x1024, .f32⟩
  | 84 => ⟨S1024x36x1024, .f32⟩
  | 85 => ⟨S1x1x1024, .f32⟩
  | 86 => ⟨S1024x36x1024, .f32⟩
  | 87 => ⟨S1024x36x1024, .f32⟩
  | 88 => ⟨S1x1x1024, .f32⟩
  | 89 => ⟨S1024x36x1024, .f32⟩
  | 90 => ⟨S1024x36x1024, .f32⟩
  | 91 => ⟨S1024x36x1024, .f32⟩
  | 92 => ⟨S_, .f32⟩
  | 93 => ⟨S1024x36, .f32⟩
  | 94 => ⟨S1024x36x1, .f32⟩
  | 95 => ⟨S_, .f32⟩
  | 96 => ⟨S1024x36x1, .f32⟩
  | 97 => ⟨S1024x36x1, .f32⟩
  | 98 => ⟨S_, .i32⟩
  | 99 => ⟨S_, .f32⟩
  | 100 => ⟨S1024x36, .f32⟩
  | 101 => ⟨S1024x36x1, .f32⟩
  | 102 => ⟨S_, .f32⟩
  | 103 => ⟨S1024x36x1, .f32⟩
  | 104 => ⟨S1024x36x1, .f32⟩
  | 105 => ⟨S1024x36x1024, .f32⟩
  | 106 => ⟨S1024x36x1024, .f32⟩
  | 107 => ⟨S1024x36x1024, .f32⟩
  | 108 => ⟨S_, .f32⟩
  | 109 => ⟨S_, .f32⟩
  | 110 => ⟨S_, .f32⟩
  | 111 => ⟨S_, .f32⟩
  | 112 => ⟨S1024x36, .f32⟩
  | 113 => ⟨S1024x36x1, .f32⟩
  | 114 => ⟨S1024x36x1, .f32⟩
  | 115 => ⟨S1024x36x1, .f32⟩
  | 116 => ⟨S_, .f32⟩
  | 117 => ⟨S_, .i1⟩
  | 118 => ⟨S_, .f32⟩
  | 119 => ⟨S_, .f32⟩
  | 120 => ⟨S1024x36x1, .f32⟩
  | 121 => ⟨S1024x36x1, .f32⟩
  | 122 => ⟨S1024x36x1024, .f32⟩
  | 123 => ⟨S1024x36x1024, .f32⟩
  | 124 => ⟨S_, .f32⟩
  | 125 => ⟨S1024x36x1, .f32⟩
  | 126 => ⟨S1024x36x1, .f32⟩
  | 127 => ⟨S1024x36x1, .f32⟩
  | _ => ⟨S1024x37x2048, .f32⟩

abbrev hbmTy0_2 (i : Nat) : BufTy := match i % 128 with
  | 0 => ⟨S1024x36x1024, .f32⟩
  | 1 => ⟨S1024x36x1024, .f32⟩
  | 2 => ⟨S1x1x1024, .f32⟩
  | 3 => ⟨S1024x36x1024, .f32⟩
  | 4 => ⟨S1024x36x1024, .f32⟩
  | 5 => ⟨S1x1x1024, .f32⟩
  | 6 => ⟨S1024x36x1024, .f32⟩
  | 7 => ⟨S1024x36x1024, .f32⟩
  | 8 => ⟨S_, .i32⟩
  | 9 => ⟨S1, .i32⟩
  | 10 => ⟨S1024x89x1024, .f32⟩
  | 11 => ⟨S_, .f32⟩
  | 12 => ⟨S1024x89, .f32⟩
  | 13 => ⟨S1024x89x1, .f32⟩
  | 14 => ⟨S_, .f32⟩
  | 15 => ⟨S1024x89x1, .f32⟩
  | 16 => ⟨S1024x89x1, .f32⟩
  | 17 => ⟨S_, .i32⟩
  | 18 => ⟨S_, .f32⟩
  | 19 => ⟨S1024x89, .f32⟩
  | 20 => ⟨S1024x89x1, .f32⟩
  | 21 => ⟨S_, .f32⟩
  | 22 => ⟨S1024x89x1, .f32⟩
  | 23 => ⟨S1024x89x1, .f32⟩
  | 24 => ⟨S1024x89x1024, .f32⟩
  | 25 => ⟨S1024x89x1024, .f32⟩
  | 26 => ⟨S1024x89x1024, .f32⟩
  | 27 => ⟨S_, .f32⟩
  | 28 => ⟨S_, .f32⟩
  | 29 => ⟨S_, .f32⟩
  | 30 => ⟨S_, .f32⟩
  | 31 => ⟨S1024x89, .f32⟩
  | 32 => ⟨S1024x89x1, .f32⟩
  | 33 => ⟨S1024x89x1, .f32⟩
  | 34 => ⟨S1024x89x1, .f32⟩
  | 35 => ⟨S_, .f32⟩
  | 36 => ⟨S_, .i1⟩
  | 37 => ⟨S_, .f32⟩
  | 38 => ⟨S_, .f32⟩
  | 39 => ⟨S1024x89x1, .f32⟩
  | 40 => ⟨S1024x89x1, .f32⟩
  | 41 => ⟨S1024x89x1024, .f32⟩
  | 42 => ⟨S1024x89x1024, .f32⟩
  | 43 => ⟨S_, .f32⟩
  | 44 => ⟨S1024x89x1, .f32⟩
  | 45 => ⟨S1024x89x1, .f32⟩
  | 46 => ⟨S1024x89x1, .f32⟩
  | 47 => ⟨S1024x89x1024, .f32⟩
  | 48 => ⟨S1024x89x1024, .f32⟩
  | 49 => ⟨S1x1x1024, .f32⟩
  | 50 => ⟨S1024x89x1024, .f32⟩
  | 51 => ⟨S1024x89x1024, .f32⟩
  | 52 => ⟨S1x1x1024, .f32⟩
  | 53 => ⟨S1024x89x1024, .f32⟩
  | 54 => ⟨S1024x89x1024, .f32⟩
  | _ => ⟨S1024x37x2048, .f32⟩

abbrev hbmTy (i : Nat) : BufTy := match i / 128 with
  | 0 => hbmTy0_0 i
  | 1 => hbmTy0_1 i
  | 2 => hbmTy0_2 i
  | _ => ⟨S1024x37x2048, .f32⟩

abbrev bufTy : (tb : Table) → Fin (tcTables nBuf tb) → BufTy
  | .hbm, ⟨i, _⟩ => hbmTy i
  | _, _ => ⟨S1024x37x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_c_0 : Ref sig .tc := ⟨.hbm, 21, rfl⟩
abbrev main_v1 : Ref sig .tc := ⟨.hbm, 22, rfl⟩
abbrev main_v2 : Ref sig .tc := ⟨.hbm, 23, rfl⟩
abbrev main_c_1 : Ref sig .tc := ⟨.hbm, 24, rfl⟩
abbrev main_v3 : Ref sig .tc := ⟨.hbm, 25, rfl⟩
abbrev main_c_2 : Ref sig .tc := ⟨.hbm, 26, rfl⟩
abbrev main_v4 : Ref sig .tc := ⟨.hbm, 27, rfl⟩
abbrev main_c_3 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_c_4 : Ref sig .tc := ⟨.hbm, 32, rfl⟩
abbrev main_v8 : Ref sig .tc := ⟨.hbm, 33, rfl⟩
abbrev main_c_5 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_c_6 : Ref sig .tc := ⟨.hbm, 38, rfl⟩
abbrev main_v12 : Ref sig .tc := ⟨.hbm, 39, rfl⟩
abbrev main_c_7 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_8 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v21 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_cst : Ref sig .tc := ⟨.hbm, 93, rfl⟩
abbrev main_call1_v15 : Ref sig .tc := ⟨.hbm, 94, rfl⟩
abbrev main_v22 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_cst : Ref sig .tc := ⟨.hbm, 126, rfl⟩
abbrev main_v31 : Ref sig .tc := ⟨.hbm, 127, rfl⟩
abbrev main_v32 : Ref sig .tc := ⟨.hbm, 128, rfl⟩
abbrev main_cst_9 : Ref sig .tc := ⟨.hbm, 129, rfl⟩
abbrev main_v33 : Ref sig .tc := ⟨.hbm, 130, rfl⟩
abbrev main_v34 : Ref sig .tc := ⟨.hbm, 131, rfl⟩
abbrev main_c_10 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_v12 : Ref sig .tc := ⟨.hbm, 149, rfl⟩
abbrev main_call3_cst_3 : Ref sig .tc := ⟨.hbm, 150, rfl⟩
abbrev main_call3_v13 : Ref sig .tc := ⟨.hbm, 151, rfl⟩
abbrev main_call3_cst_4 : Ref sig .tc := ⟨.hbm, 152, rfl⟩
abbrev main_call3_call0_v0 : Ref sig .tc := ⟨.hbm, 153, rfl⟩
abbrev main_call3_call0_v1 : Ref sig .tc := ⟨.hbm, 154, rfl⟩
abbrev main_v35 : Ref sig .tc := ⟨.hbm, 155, rfl⟩
abbrev main_v36 : Ref sig .tc := ⟨.hbm, 156, rfl⟩
abbrev main_v37 : Ref sig .tc := ⟨.hbm, 157, rfl⟩
abbrev main_cst_11 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_cst_12 : Ref sig .tc := ⟨.hbm, 175, rfl⟩
abbrev main_v54 : Ref sig .tc := ⟨.hbm, 176, rfl⟩
abbrev main_v55 : Ref sig .tc := ⟨.hbm, 177, rfl⟩
abbrev main_cst_13 : Ref sig .tc := ⟨.hbm, 178, rfl⟩
abbrev main_v56 : Ref sig .tc := ⟨.hbm, 179, rfl⟩
abbrev main_v57 : Ref sig .tc := ⟨.hbm, 180, rfl⟩
abbrev main_c_14 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_cst_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_cst_1 : Ref sig .tc := ⟨.hbm, 192, rfl⟩
abbrev main_call4_v8 : Ref sig .tc := ⟨.hbm, 193, rfl⟩
abbrev main_call4_cst_2 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_v12 : Ref sig .tc := ⟨.hbm, 198, rfl⟩
abbrev main_call4_cst_3 : Ref sig .tc := ⟨.hbm, 199, rfl⟩
abbrev main_call4_v13 : Ref sig .tc := ⟨.hbm, 200, rfl⟩
abbrev main_call4_cst_4 : Ref sig .tc := ⟨.hbm, 201, rfl⟩
abbrev main_call4_call0_v0 : Ref sig .tc := ⟨.hbm, 202, rfl⟩
abbrev main_call4_call0_v1 : Ref sig .tc := ⟨.hbm, 203, rfl⟩
abbrev main_v58 : Ref sig .tc := ⟨.hbm, 204, rfl⟩
abbrev main_v59 : Ref sig .tc := ⟨.hbm, 205, rfl⟩
abbrev main_v60 : Ref sig .tc := ⟨.hbm, 206, rfl⟩
abbrev main_cst_15 : Ref sig .tc := ⟨.hbm, 207, rfl⟩
abbrev main_v61 : Ref sig .tc := ⟨.hbm, 208, rfl⟩
abbrev main_v62 : Ref sig .tc := ⟨.hbm, 209, rfl⟩
abbrev main_v63 : Ref sig .tc := ⟨.hbm, 210, rfl⟩
abbrev main_v64 : Ref sig .tc := ⟨.hbm, 211, rfl⟩
abbrev main_v65 : Ref sig .tc := ⟨.hbm, 212, rfl⟩
abbrev main_v66 : Ref sig .tc := ⟨.hbm, 213, rfl⟩
abbrev main_v67 : Ref sig .tc := ⟨.hbm, 214, rfl⟩
abbrev main_v68 : Ref sig .tc := ⟨.hbm, 215, rfl⟩
abbrev main_v69 : Ref sig .tc := ⟨.hbm, 216, rfl⟩
abbrev main_v70 : Ref sig .tc := ⟨.hbm, 217, rfl⟩
abbrev main_v71 : Ref sig .tc := ⟨.hbm, 218, rfl⟩
abbrev main_v72 : Ref sig .tc := ⟨.hbm, 219, rfl⟩
abbrev main_cst_16 : Ref sig .tc := ⟨.hbm, 220, rfl⟩
abbrev main_v73 : Ref sig .tc := ⟨.hbm, 221, rfl⟩
abbrev main_v74 : Ref sig .tc := ⟨.hbm, 222, rfl⟩
abbrev main_cst_17 : Ref sig .tc := ⟨.hbm, 223, rfl⟩
abbrev main_v75 : Ref sig .tc := ⟨.hbm, 224, rfl⟩
abbrev main_v76 : Ref sig .tc := ⟨.hbm, 225, rfl⟩
abbrev main_c_18 : Ref sig .tc := ⟨.hbm, 226, rfl⟩
abbrev main_call5_cst : Ref sig .tc := ⟨.hbm, 227, rfl⟩
abbrev main_call5_v0 : Ref sig .tc := ⟨.hbm, 228, rfl⟩
abbrev main_call5_v1 : Ref sig .tc := ⟨.hbm, 229, rfl⟩
abbrev main_call5_cst_0 : Ref sig .tc := ⟨.hbm, 230, rfl⟩
abbrev main_call5_v2 : Ref sig .tc := ⟨.hbm, 231, rfl⟩
abbrev main_call5_v3 : Ref sig .tc := ⟨.hbm, 232, rfl⟩
abbrev main_call5_v4 : Ref sig .tc := ⟨.hbm, 233, rfl⟩
abbrev main_call5_v5 : Ref sig .tc := ⟨.hbm, 234, rfl⟩
abbrev main_call5_v6 : Ref sig .tc := ⟨.hbm, 235, rfl⟩
abbrev main_call5_v7 : Ref sig .tc := ⟨.hbm, 236, rfl⟩
abbrev main_call5_cst_1 : Ref sig .tc := ⟨.hbm, 237, rfl⟩
abbrev main_call5_v8 : Ref sig .tc := ⟨.hbm, 238, rfl⟩
abbrev main_call5_cst_2 : Ref sig .tc := ⟨.hbm, 239, rfl⟩
abbrev main_call5_v9 : Ref sig .tc := ⟨.hbm, 240, rfl⟩
abbrev main_call5_v10 : Ref sig .tc := ⟨.hbm, 241, rfl⟩
abbrev main_call5_v11 : Ref sig .tc := ⟨.hbm, 242, rfl⟩
abbrev main_call5_v12 : Ref sig .tc := ⟨.hbm, 243, rfl⟩
abbrev main_call5_cst_3 : Ref sig .tc := ⟨.hbm, 244, rfl⟩
abbrev main_call5_v13 : Ref sig .tc := ⟨.hbm, 245, rfl⟩
abbrev main_call5_cst_4 : Ref sig .tc := ⟨.hbm, 246, rfl⟩
abbrev main_call5_call0_v0 : Ref sig .tc := ⟨.hbm, 247, rfl⟩
abbrev main_call5_call0_v1 : Ref sig .tc := ⟨.hbm, 248, rfl⟩
abbrev main_v77 : Ref sig .tc := ⟨.hbm, 249, rfl⟩
abbrev main_v78 : Ref sig .tc := ⟨.hbm, 250, rfl⟩
abbrev main_v79 : Ref sig .tc := ⟨.hbm, 251, rfl⟩
abbrev main_cst_19 : Ref sig .tc := ⟨.hbm, 252, rfl⟩
abbrev main_v80 : Ref sig .tc := ⟨.hbm, 253, rfl⟩
abbrev main_v81 : Ref sig .tc := ⟨.hbm, 254, rfl⟩
abbrev main_v82 : Ref sig .tc := ⟨.hbm, 255, rfl⟩
abbrev main_v83 : Ref sig .tc := ⟨.hbm, 256, rfl⟩
abbrev main_v84 : Ref sig .tc := ⟨.hbm, 257, rfl⟩
abbrev main_v85 : Ref sig .tc := ⟨.hbm, 258, rfl⟩
abbrev main_v86 : Ref sig .tc := ⟨.hbm, 259, rfl⟩
abbrev main_v87 : Ref sig .tc := ⟨.hbm, 260, rfl⟩
abbrev main_v88 : Ref sig .tc := ⟨.hbm, 261, rfl⟩
abbrev main_v89 : Ref sig .tc := ⟨.hbm, 262, rfl⟩
abbrev main_v90 : Ref sig .tc := ⟨.hbm, 263, rfl⟩
abbrev main_c_20 : Ref sig .tc := ⟨.hbm, 264, rfl⟩
abbrev main_v91 : Ref sig .tc := ⟨.hbm, 265, rfl⟩
abbrev main_v92 : Ref sig .tc := ⟨.hbm, 266, rfl⟩
abbrev main_cst_21 : Ref sig .tc := ⟨.hbm, 267, rfl⟩
abbrev main_v93 : Ref sig .tc := ⟨.hbm, 268, rfl⟩
abbrev main_v94 : Ref sig .tc := ⟨.hbm, 269, rfl⟩
abbrev main_cst_22 : Ref sig .tc := ⟨.hbm, 270, rfl⟩
abbrev main_v95 : Ref sig .tc := ⟨.hbm, 271, rfl⟩
abbrev main_v96 : Ref sig .tc := ⟨.hbm, 272, rfl⟩
abbrev main_c_23 : Ref sig .tc := ⟨.hbm, 273, rfl⟩
abbrev main_call6_cst : Ref sig .tc := ⟨.hbm, 274, rfl⟩
abbrev main_call6_v0 : Ref sig .tc := ⟨.hbm, 275, rfl⟩
abbrev main_call6_v1 : Ref sig .tc := ⟨.hbm, 276, rfl⟩
abbrev main_call6_cst_0 : Ref sig .tc := ⟨.hbm, 277, rfl⟩
abbrev main_call6_v2 : Ref sig .tc := ⟨.hbm, 278, rfl⟩
abbrev main_call6_v3 : Ref sig .tc := ⟨.hbm, 279, rfl⟩
abbrev main_call6_v4 : Ref sig .tc := ⟨.hbm, 280, rfl⟩
abbrev main_call6_v5 : Ref sig .tc := ⟨.hbm, 281, rfl⟩
abbrev main_call6_v6 : Ref sig .tc := ⟨.hbm, 282, rfl⟩
abbrev main_call6_v7 : Ref sig .tc := ⟨.hbm, 283, rfl⟩
abbrev main_call6_cst_1 : Ref sig .tc := ⟨.hbm, 284, rfl⟩
abbrev main_call6_v8 : Ref sig .tc := ⟨.hbm, 285, rfl⟩
abbrev main_call6_cst_2 : Ref sig .tc := ⟨.hbm, 286, rfl⟩
abbrev main_call6_v9 : Ref sig .tc := ⟨.hbm, 287, rfl⟩
abbrev main_call6_v10 : Ref sig .tc := ⟨.hbm, 288, rfl⟩
abbrev main_call6_v11 : Ref sig .tc := ⟨.hbm, 289, rfl⟩
abbrev main_call6_v12 : Ref sig .tc := ⟨.hbm, 290, rfl⟩
abbrev main_call6_cst_3 : Ref sig .tc := ⟨.hbm, 291, rfl⟩
abbrev main_call6_v13 : Ref sig .tc := ⟨.hbm, 292, rfl⟩
abbrev main_call6_cst_4 : Ref sig .tc := ⟨.hbm, 293, rfl⟩
abbrev main_call6_call0_v0 : Ref sig .tc := ⟨.hbm, 294, rfl⟩
abbrev main_call6_call0_v1 : Ref sig .tc := ⟨.hbm, 295, rfl⟩
abbrev main_v97 : Ref sig .tc := ⟨.hbm, 296, rfl⟩
abbrev main_v98 : Ref sig .tc := ⟨.hbm, 297, rfl⟩
abbrev main_v99 : Ref sig .tc := ⟨.hbm, 298, rfl⟩
abbrev main_cst_24 : Ref sig .tc := ⟨.hbm, 299, rfl⟩
abbrev main_v100 : Ref sig .tc := ⟨.hbm, 300, rfl⟩
abbrev main_v101 : Ref sig .tc := ⟨.hbm, 301, rfl⟩
abbrev main_v102 : Ref sig .tc := ⟨.hbm, 302, rfl⟩
abbrev main_v103 : Ref sig .tc := ⟨.hbm, 303, rfl⟩
abbrev main_v104 : Ref sig .tc := ⟨.hbm, 304, rfl⟩
abbrev main_v105 : Ref sig .tc := ⟨.hbm, 305, rfl⟩
abbrev main_v106 : Ref sig .tc := ⟨.hbm, 306, rfl⟩
abbrev main_v107 : Ref sig .tc := ⟨.hbm, 307, rfl⟩
abbrev main_v108 : Ref sig .tc := ⟨.hbm, 308, rfl⟩
abbrev main_v109 : Ref sig .tc := ⟨.hbm, 309, rfl⟩
abbrev main_v110 : Ref sig .tc := ⟨.hbm, 310, rfl⟩

abbrev nD : Nat := 1
abbrev τ : Topo := Topo.v7x

variable {F : FTy → Type} [FloatOps F]
-- ==== Proof.Norm.lean ====
module

public import Idealize.ShloMosaic.Lib.IdealHost
public import Idealize.ShloMosaic.PureOps.Ideal.Laws

/-!
# The layer norm over the reals, and the two shortcuts taken for it

Everything here is about real rows of length 1024.  `norm` is the layer norm written down as it
is usually defined.  `shortNorm` takes the variance as the mean of the squares less the square of
the mean.  `visOut` folds three nested layer norms into one linear combination of the rows; it is
shown to be the nested norms (`visOut_eq`).
-/

@[expose] public section

noncomputable section

namespace Cert.Proof

/-- A row of 1024 real numbers. -/
abbrev Row := Fin 1024 → ℝ

/-- The mean of a row. -/
def mean (f : Row) : ℝ := (∑ h, f h) / 1024

/-- The variance of a row: the mean of the squared distances to the mean. -/
def var (f : Row) : ℝ := mean fun h => (f h - mean f) * (f h - mean f)

/-- The number added to a variance before the root is taken. -/
def eps : ℝ := 9223372 / 2 ^ 63

/-- The layer norm of a row. -/
def norm (f : Row) : Row := fun h => (f h - mean f) / √(var f + eps)

theorem eps_pos : 0 < eps := by unfold eps; norm_num

theorem mean_add (f g : Row) : mean (fun h => f h + g h) = mean f + mean g := by
  simp only [mean, Finset.sum_add_distrib, add_div]

theorem mean_sub (f g : Row) : mean (fun h => f h - g h) = mean f - mean g := by
  simp only [mean, Finset.sum_sub_distrib, sub_div]

theorem mean_mul_const (f : Row) (c : ℝ) : mean (fun h => f h * c) = mean f * c := by
  simp only [mean, ← Finset.sum_mul]; ring

theorem mean_const (c : ℝ) : mean (fun _ => c) = c := by
  simp [mean]

theorem mean_nonneg {f : Row} (hf : ∀ h, 0 ≤ f h) : 0 ≤ mean f :=
  div_nonneg (Finset.sum_nonneg fun h _ => hf h) (by norm_num)

theorem var_nonneg (f : Row) : 0 ≤ var f := mean_nonneg fun _ => mul_self_nonneg _

theorem var_add_eps_pos (f : Row) : 0 < var f + eps := add_pos_of_nonneg_of_pos (var_nonneg f) eps_pos

/-- A row less its mean has mean zero. -/
theorem mean_centred (f : Row) : mean (fun h => f h - mean f) = 0 := by
  rw [mean_sub, mean_const, sub_self]

/-- The mean of the products of two centred rows is the mean of the products less the product of
the means. -/
theorem mean_centred_mul (f g : Row) :
    mean (fun h => (f h - mean f) * (g h - mean g)) = mean (fun h => f h * g h) - mean f * mean g := by
  have e : (fun h => (f h - mean f) * (g h - mean g)) =
      fun h => ((f h * g h - f h * mean g) - g h * mean f) + mean f * mean g := by
    funext h; ring
  rw [e, mean_add, mean_sub, mean_sub, mean_mul_const, mean_mul_const, mean_const]; ring

/-- The variance is the mean of the squares less the square of the mean. -/
theorem var_eq (f : Row) : var f = mean (fun h => f h * f h) - mean f * mean f :=
  mean_centred_mul f f

/-- Centring one factor is enough when the other already has mean zero. -/
theorem mean_centred_left (f c : Row) (hc : mean c = 0) :
    mean (fun h => (f h - mean f) * c h) = mean fun h => f h * c h := by
  have e : (fun h => (f h - mean f) * c h) = fun h => f h * c h - c h * mean f := by
    funext h; ring
  rw [e, mean_sub, mean_mul_const, hc]; ring

/-- The reciprocal root by which a layer norm scales. -/
def scale (v : ℝ) : ℝ := (√(v + eps))⁻¹

theorem norm_eq (f : Row) : norm f = fun h => (f h - mean f) * scale (var f) := by
  funext h; rw [norm, scale, div_eq_mul_inv]

theorem mean_norm (f : Row) : mean (norm f) = 0 := by
  rw [norm_eq, mean_mul_const, mean_centred, zero_mul]

/-- A layer norm with the variance taken from the mean square. -/
def shortNorm (f : Row) : Row := fun h =>
  f h * scale (mean (fun k => f k * f k) - mean f * mean f) -
    mean f * scale (mean (fun k => f k * f k) - mean f * mean f)

theorem shortNorm_eq (f : Row) : shortNorm f = norm f := by
  funext h; rw [norm_eq, shortNorm, ← var_eq]; ring

/-- The mean square of the sum of two normed rows, from the moments of the rows. -/
def sumSquare (y l : Row) : ℝ :=
  ((var y * scale (var y)) * scale (var y) +
    2 * ((scale (var y) * scale (var l)) * (mean (fun h => y h * l h) - mean y * mean l))) +
    (var l * scale (var l)) * scale (var l)

theorem var_sum_norm (y l : Row) : var (fun h => norm y h + norm l h) = sumSquare y l := by
  have e : (fun h => (norm y h + norm l h) * (norm y h + norm l h)) = fun h =>
      ((y h - mean y) * (y h - mean y) * (scale (var y) * scale (var y)) +
        (y h - mean y) * (l h - mean l) * (2 * (scale (var y) * scale (var l)))) +
        (l h - mean l) * (l h - mean l) * (scale (var l) * scale (var l)) := by
    funext h; simp only [norm_eq]; ring
  rw [var_eq, mean_add, mean_norm, mean_norm, e, mean_add, mean_add, mean_mul_const, mean_mul_const,
    mean_mul_const, mean_centred_mul y l]
  simp only [sumSquare, var]; ring

/-- The mean square of the normed sum plus the centred row `k`, from the moments of the rows. -/
def outSquare (y l c : Row) : ℝ :=
  ((scale (sumSquare y l) * scale (sumSquare y l)) * sumSquare y l +
    2 * (scale (sumSquare y l) *
      (scale (var y) * mean (fun h => y h * c h) + scale (var l) * mean (fun h => l h * c h)))) +
    mean (fun h => c h * c h)

theorem norm_sum_norm (y l : Row) : norm (fun h => norm y h + norm l h) =
    fun h => (norm y h + norm l h) * scale (sumSquare y l) := by
  funext h
  rw [norm_eq, var_sum_norm, mean_add, mean_norm, mean_norm]; ring

theorem var_out (y l k c : Row) (hc : ∀ h, c h = k h - mean k) :
    var (fun h => k h + norm (fun h => norm y h + norm l h) h) = outSquare y l c := by
  have hc0 : mean c = 0 := by rw [funext hc]; exact mean_centred k
  have hm : mean (fun h => k h + norm (fun h => norm y h + norm l h) h) = mean k := by
    rw [mean_add, mean_norm, add_zero]
  have e : (fun h => (k h + norm (fun h => norm y h + norm l h) h - mean k) *
        (k h + norm (fun h => norm y h + norm l h) h - mean k)) = fun h =>
      ((norm y h + norm l h) * (norm y h + norm l h) *
          (scale (sumSquare y l) * scale (sumSquare y l)) +
        ((y h - mean y) * c h * (2 * (scale (sumSquare y l) * scale (var y))) +
          (l h - mean l) * c h * (2 * (scale (sumSquare y l) * scale (var l))))) + c h * c h := by
    funext h
    rw [norm_sum_norm, hc h]; simp only [norm_eq]; ring
  have hs : mean (fun h => (norm y h + norm l h) * (norm y h + norm l h)) = sumSquare y l := by
    rw [← var_sum_norm, var_eq, mean_add, mean_norm, mean_norm]; ring
  rw [var, hm, e, mean_add, mean_add, mean_add, mean_mul_const, mean_mul_const, mean_mul_const,
    hs, mean_centred_left y c hc0, mean_centred_left l c hc0, outSquare]
  ring

theorem sumSquare_nonneg (y l : Row) : 0 ≤ sumSquare y l := var_sum_norm y l ▸ var_nonneg _

theorem outSquare_nonneg (y l k c : Row) (hc : ∀ h, c h = k h - mean k) : 0 ≤ outSquare y l c :=
  var_out y l k c hc ▸ var_nonneg _

/-- Three nested layer norms as one combination of the rows `y`, `l` and the centred row `c`. -/
def visOut (y l c : Row) : Row := fun h =>
  (y h * ((scale (var y) * scale (sumSquare y l)) * scale (outSquare y l c)) +
    l h * ((scale (var l) * scale (sumSquare y l)) * scale (outSquare y l c))) +
  (scale (outSquare y l c) * c h -
    (mean y * ((scale (var y) * scale (sumSquare y l)) * scale (outSquare y l c)) +
      mean l * ((scale (var l) * scale (sumSquare y l)) * scale (outSquare y l c))))

/-- The combination is the layer norm of the row `k` plus the layer norm of the sum of the two
layer norms of `y` and `l`. -/
theorem visOut_eq (y l k c : Row) (hc : ∀ h, c h = k h - mean k) :
    visOut y l c = norm fun h => k h + norm (fun h => norm y h + norm l h) h := by
  funext h
  have hm : mean (fun h => k h + norm (fun h => norm y h + norm l h) h) = mean k := by
    rw [mean_add, mean_norm, add_zero]
  rw [norm_eq, var_out y l k c hc, hm, visOut, norm_sum_norm, hc h]
  simp only [norm_eq]; ring

end Cert.Proof

end
-- ==== Proof.Words.lean ====
module

public import proofs.«01_k».proof.Proof.Norm

/-!
# The constants of the programs, and arithmetic on values known to be real

The literal words as real numbers, and the few facts that move a sum, a quotient or a reciprocal
root of real numbers inside the embedding of the reals in the extended reals.
-/

@[expose] public section

noncomputable section

namespace Cert.Proof

open Idealize.ShloMosaic

/-- The word of the small number under the roots. -/
theorem word_eps : Ideal.ofBits .f32 0x2B8CBCCC#32 = ((eps : ℝ) : EReal) := by
  simp [Ideal.ofBits, Ideal.ieee, eps, -EReal.coe_mul]; norm_num

/-- The word of the row length. -/
theorem word_len : Ideal.ofBits .f32 0x44800000#32 = ((1024 : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of infinity. -/
theorem word_inf : Ideal.ofBits .f32 0x7F800000#32 = ⊤ := by
  simp [Ideal.ofBits, Ideal.ieee]

/-- A sum of real numbers. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum of a row over its length is its mean. -/
theorem div_len (f : Row) : Ideal.div ((∑ h, f h : ℝ) : EReal) ((1024 : ℝ) : EReal) = ((mean f : ℝ) : EReal) := by
  rw [Ideal.div_coe (by norm_num), ← EReal.coe_mul, mean]; congr 1; ring

/-- The reciprocal root of a variance plus the small number. -/
theorem rsqrt_eps {v : ℝ} (hv : 0 ≤ v) : Ideal.rsqrt ((v + eps : ℝ) : EReal) = ((scale v : ℝ) : EReal) := by
  have h : 0 < v + eps := add_pos_of_nonneg_of_pos hv eps_pos
  rw [Ideal.rsqrt_coe, if_neg h.le.not_gt, if_neg h.ne', scale]

/-- Dividing by the root of a variance plus the small number. -/
theorem div_sqrt_eps {v : ℝ} (hv : 0 ≤ v) (x : ℝ) :
    Ideal.div (x : EReal) (Ideal.sqrt ((v + eps : ℝ) : EReal)) = ((x * scale v : ℝ) : EReal) := by
  have h : 0 < v + eps := add_pos_of_nonneg_of_pos hv eps_pos
  rw [Ideal.sqrt_coe, if_neg h.le.not_gt, Ideal.div_coe (Real.sqrt_pos.2 h).ne', ← EReal.coe_mul, scale, one_div]

end Cert.Proof

end
-- ==== Proof.Visual.lean ====
module

public import proofs.«01_k».proof.Proof.Words
public import proofs.«01_k».proof.Proof.Gen.KernelIdeal.Skeleton
public import Idealize.ShloMosaic.Lib.Pointwise

/-!
# What the kernel stores for the image regions

Given that the two projections of a block (`v6` for the features, `v13` for the boxes) and the sum
of the three constant table rows hold real numbers, each intermediate of the kernel's fused norm is
the named moment of these rows, and the stored block is `visOut` of them.  Row `r` of a projection
belongs to region `n` of example `b` where `r = 16 n + b`.
-/

@[expose] public section

noncomputable section

set_option maxRecDepth 16384

namespace Cert.Proof

open Idealize.ShloMosaic Idealize.ShloMosaic.TcCoe Idealize.ShloMosaic.Tactic Cert.KernelIdeal
  Cert.KernelIdeal.Gen

section moments

variable {v0 : Vec Ideal S36x16x2048 .f32} {v4 : Vec Ideal S2048x1024 .bf16}
  {v6 v13 : FVec Ideal S576x1024 .f32} {v27 : FVec Ideal S1x1024 .f32}
  {v14 v16 v19 : Vec Ideal S1x1024 .f32}
  {Y L : Fin 576 → Row} {C K : Row}

/-- The centred constant row. -/
theorem pay4_apply (hk : ∀ h, v14 (ix2 0 h) + v16 (ix2 0 h) + v19 (ix2 0 h) = ((K h : ℝ) : EReal))
    (h : Fin 1024) : k0_pay4 v14 v16 v19 (ix2 0 h) = ((K h - mean K : ℝ) : EReal) := by
  pointwise [k0_pay4]
  simp only [hk, coe_sum, word_len, div_len, ← EReal.coe_sub]

/-- The mean square of the centred constant row. -/
theorem pay5_apply (hc : ∀ h, k0_pay4 v14 v16 v19 (ix2 0 h) = ((C h : ℝ) : EReal)) :
    k0_pay5 v14 v16 v19 (ix2 0 0) = ((mean fun h => C h * C h : ℝ) : EReal) := by
  pointwise [k0_pay5]
  simp only [hc, ← EReal.coe_mul, coe_sum, word_len, div_len]

/-- The mean of a feature row. -/
theorem pay7_apply (hy : ∀ r h, k0_pay2 v0 v4 (ix2 r h) = ((Y r h : ℝ) : EReal)) (r : Fin 576) :
    k0_pay7 (k0_pay6 v0 v4) (Ideal.ofBits .f32 1149239296#32) (ix2 r 0) =
      ((mean (Y r) : ℝ) : EReal) := by
  pointwise [k0_pay7, k0_pay6]
  simp only [hy, coe_sum, word_len, div_len]

/-- The mean of a feature row times the centred constant row. -/
theorem pay8_apply (hy : ∀ r h, v6 (ix2 r h) = ((Y r h : ℝ) : EReal))
    (hc : ∀ h, v27 (ix2 0 h) = ((C h : ℝ) : EReal)) (r : Fin 576) :
    k0_pay8 v6 v27 (ix2 r 0) = ((mean fun h => Y r h * C h : ℝ) : EReal) := by
  pointwise [k0_pay8]
  simp only [hy, hc, ← EReal.coe_mul, coe_sum, word_len, div_len]

/-- The mean of a box row. -/
theorem pay9_apply (hl : ∀ r h, v13 (ix2 r h) = ((L r h : ℝ) : EReal)) (r : Fin 576) :
    k0_pay9 v13 (ix2 r 0) = ((mean (L r) : ℝ) : EReal) := by
  pointwise [k0_pay9]
  simp only [hl, coe_sum, word_len, div_len]

/-- The mean of a box row times the centred constant row. -/
theorem pay10_apply (hl : ∀ r h, v13 (ix2 r h) = ((L r h : ℝ) : EReal))
    (hc : ∀ h, v27 (ix2 0 h) = ((C h : ℝ) : EReal)) (r : Fin 576) :
    k0_pay10 v13 v27 (ix2 r 0) = ((mean fun h => L r h * C h : ℝ) : EReal) := by
  pointwise [k0_pay10]
  simp only [hl, hc, ← EReal.coe_mul, coe_sum, word_len, div_len]

/-- The mean of a feature row times a box row. -/
theorem pay11_apply (hy : ∀ r h, v6 (ix2 r h) = ((Y r h : ℝ) : EReal))
    (hl : ∀ r h, v13 (ix2 r h) = ((L r h : ℝ) : EReal)) (r : Fin 576) :
    k0_pay11 v6 v13 (ix2 r 0) = ((mean fun h => Y r h * L r h : ℝ) : EReal) := by
  pointwise [k0_pay11]
  simp only [hy, hl, ← EReal.coe_mul, coe_sum, word_len, div_len]

/-- The variance of a feature row. -/
theorem pay12_apply (hy : ∀ r h, k0_pay2 v0 v4 (ix2 r h) = ((Y r h : ℝ) : EReal)) (r : Fin 576) :
    k0_pay12 (k0_pay2 v0 v4) (k0_pay6 v0 v4) (Ideal.ofBits .f32 1149239296#32) (ix2 r 0) =
      ((var (Y r) : ℝ) : EReal) := by
  pointwise [k0_pay12]
  rw [pay7_apply hy]
  simp only [hy, ← EReal.coe_mul, coe_sum, word_len, div_len, ← EReal.coe_sub,
    ← var_eq]

/-- The variance of a box row. -/
theorem pay13_apply (hl : ∀ r h, v13 (ix2 r h) = ((L r h : ℝ) : EReal)) (r : Fin 576) :
    k0_pay13 v13 (ix2 r 0) = ((var (L r) : ℝ) : EReal) := by
  pointwise [k0_pay13]
  simp only [hl, pay9_apply hl, ← EReal.coe_mul, coe_sum, word_len, div_len, ← EReal.coe_sub,
    ← var_eq]

/-- The scale of a feature row. -/
theorem pay14_apply (hy : ∀ r h, k0_pay2 v0 v4 (ix2 r h) = ((Y r h : ℝ) : EReal)) (r : Fin 576) :
    k0_pay14 (k0_pay2 v0 v4) (k0_pay6 v0 v4) (Ideal.ofBits .f32 1149239296#32) (ix2 r 0) =
      ((scale (var (Y r)) : ℝ) : EReal) := by
  pointwise [k0_pay14]
  rw [pay12_apply hy, word_eps, ← EReal.coe_add, rsqrt_eps (var_nonneg _)]

/-- The scale of a box row. -/
theorem pay15_apply (hl : ∀ r h, v13 (ix2 r h) = ((L r h : ℝ) : EReal)) (r : Fin 576) :
    k0_pay15 v13 (ix2 r 0) = ((scale (var (L r)) : ℝ) : EReal) := by
  pointwise [k0_pay15]
  rw [pay13_apply hl, word_eps, ← EReal.coe_add, rsqrt_eps (var_nonneg _)]

/-- The variance of a normed feature row. -/
theorem pay16_apply (hy : ∀ r h, k0_pay2 v0 v4 (ix2 r h) = ((Y r h : ℝ) : EReal)) (r : Fin 576) :
    k0_pay16 (k0_pay2 v0 v4) (k0_pay6 v0 v4) (Ideal.ofBits .f32 1149239296#32) (ix2 r 0) =
      (((var (Y r) * scale (var (Y r))) * scale (var (Y r)) : ℝ) : EReal) := by
  pointwise [k0_pay16]
  simp only [pay12_apply hy, pay14_apply hy, ← EReal.coe_mul]

/-- The variance of a box row times its scale. -/
theorem pay17_apply (hl : ∀ r h, v13 (ix2 r h) = ((L r h : ℝ) : EReal)) (r : Fin 576) :
    k0_pay17 v13 (ix2 r 0) = ((var (L r) * scale (var (L r)) : ℝ) : EReal) := by
  pointwise [k0_pay17]
  simp only [pay13_apply hl, pay15_apply hl, ← EReal.coe_mul]

end moments

/-- What the kernel stores for the 36 regions of 16 examples, from the blocks it loads. -/
def visBlock (v0 : Vec Ideal S36x16x2048 .f32) (v4 : Vec Ideal S2048x1024 .bf16)
    (v7 : Vec Ideal S36x16x5 .f32) (v11 : Vec Ideal S5x1024 .bf16)
    (v14 v16 v19 : Vec Ideal S1x1024 .f32) : FVec Ideal S36x16x1024 .f32 :=
  k0_pay18 (k0_pay2 v0 v4) (k0_pay3 v7 v11) (k0_pay4 v14 v16 v19) (k0_pay5 v14 v16 v19)
    (k0_pay7 (k0_pay6 v0 v4) (FloatOps.ofBits .f32 1149239296#32))
    (k0_pay8 (k0_pay2 v0 v4) (k0_pay4 v14 v16 v19)) (k0_pay9 (k0_pay3 v7 v11))
    (k0_pay10 (k0_pay3 v7 v11) (k0_pay4 v14 v16 v19)) (k0_pay11 (k0_pay2 v0 v4) (k0_pay3 v7 v11))
    (k0_pay14 (k0_pay2 v0 v4) (k0_pay6 v0 v4) (FloatOps.ofBits .f32 1149239296#32))
    (k0_pay15 (k0_pay3 v7 v11))
    (k0_pay16 (k0_pay2 v0 v4) (k0_pay6 v0 v4) (FloatOps.ofBits .f32 1149239296#32))
    (k0_pay17 (k0_pay3 v7 v11))

/-- The row of a projection that holds region `n` of example `b`. -/
abbrev visRow (n : Fin 36) (b : Fin 16) : Fin 576 := ⟨n.val * 16 + b.val, by omega⟩

/-- The stored block is the layer norm of the constant row plus the normed sum of the two normed
projections. -/
theorem visBlock_apply {v0 : Vec Ideal S36x16x2048 .f32} {v4 : Vec Ideal S2048x1024 .bf16}
    {v7 : Vec Ideal S36x16x5 .f32} {v11 : Vec Ideal S5x1024 .bf16}
    {v14 v16 v19 : Vec Ideal S1x1024 .f32} {Y L : Fin 576 → Row} {K : Row}
    (hy : ∀ r h, k0_pay2 v0 v4 (ix2 r h) = ((Y r h : ℝ) : EReal))
    (hl : ∀ r h, k0_pay3 v7 v11 (ix2 r h) = ((L r h : ℝ) : EReal))
    (hk : ∀ h, v14 (ix2 0 h) + v16 (ix2 0 h) + v19 (ix2 0 h) = ((K h : ℝ) : EReal))
    (n : Fin 36) (b : Fin 16) (h : Fin 1024) :
    visBlock v0 v4 v7 v11 v14 v16 v19 (ix3 n b h) =
      ((norm (fun h => K h + norm (fun h => norm (Y (visRow n b)) h + norm (L (visRow n b)) h) h) h
        : ℝ) : EReal) := by
  have hc := pay4_apply hk
  have e1 := rsqrt_eps (sumSquare_nonneg (Y (visRow n b)) (L (visRow n b)))
  have e2 := rsqrt_eps (outSquare_nonneg (Y (visRow n b)) (L (visRow n b)) K
    (fun h => K h - mean K) (fun _ => rfl))
  rw [← visOut_eq _ _ K (fun h => K h - mean K) (fun _ => rfl)]
  unfold visBlock
  pointwise [k0_pay18]
  simp only [outSquare, sumSquare] at e1 e2
  simp only [hy, hl, hc, pay5_apply hc, pay7_apply hy, pay8_apply hy hc, pay9_apply hl,
    pay10_apply hl hc, pay11_apply hy hl, pay14_apply hy, pay15_apply hl, pay16_apply hy,
    pay17_apply hl, word_two, word_eps, ← EReal.coe_mul, ← EReal.coe_add, ← EReal.coe_sub, e1, e2]
  simp only [visOut, outSquare, sumSquare]

end Cert.Proof

end
-- ==== Proof.Text.lean ====
module

public import proofs.«01_k».proof.Proof.Words
public import proofs.«01_k».proof.Proof.Gen.KernelIdeal.Skeleton
public import Idealize.ShloMosaic.Lib.Pointwise

/-!
# What the kernel stores for the text tokens and for the image row

The kernel looks three table rows up by one product with a matrix of zeros and ones: the columns
set in a row of that matrix are those of the word, of the position and of the token type.  The
position is read off the number of the row.
-/

@[expose] public section

noncomputable section

set_option maxRecDepth 16384

namespace Cert.Proof

open Idealize.ShloMosaic Idealize.ShloMosaic.TcCoe Idealize.ShloMosaic.Tactic Cert.KernelIdeal
  Cert.KernelIdeal.Gen

/-- The column of the position that the kernel works out from the number of the row: sixteen
consecutive rows share one position, and the positions of the text start at column 52. -/
theorem position_word : ∀ r : Fin 832,
    IntOp.addi
      (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 r.val) 16#32) 0#32))
        (IntOp.subi (IntOp.divsi ArithUnit.vector (BitVec.ofNat 32 r.val) 16#32) 1#32)
        (IntOp.divsi ArithUnit.vector (BitVec.ofNat 32 r.val) 16#32))
      52#32 = BitVec.ofNat 32 (r.val / 16 + 52) := by
  decide +kernel

/-- Comparing a column number with another. -/
theorem cmpi_column (k a : Fin 108) :
    IntOp.cmpi CmpIPredicate.eq (BitVec.ofNat 32 k.val) (BitVec.ofNat 32 a.val) =
      if k = a then 1#1 else 0#1 := by
  have e : BitVec.ofNat 32 k.val = BitVec.ofNat 32 a.val ↔ k = a := by
    rw [← BitVec.toNat_inj, BitVec.toNat_ofNat, BitVec.toNat_ofNat, Nat.mod_eq_of_lt (by omega),
      Nat.mod_eq_of_lt (by omega), Fin.val_inj]
  by_cases h : k = a
  · subst h; simp [IntOp.cmpi]
  · rw [if_neg h]
    show BitVec.ofBool (BitVec.ofNat 32 k.val == BitVec.ofNat 32 a.val) = _
    rw [beq_eq_false_iff_ne.2 (mt e.1 h)]; rfl

/-- One entry of the matrix of zeros and ones, for three different columns. -/
theorem hit_entry (k a p t : Fin 108) (hap : a ≠ p) (hat : a ≠ t) (hpt : p ≠ t) :
    (FloatOps.sitofp (F := Ideal) FTy.f32 (BitVec.setWidth 32
      (IntOp.ori (IntOp.ori
        (IntOp.cmpi CmpIPredicate.eq (BitVec.ofNat 32 k.val) (BitVec.ofNat 32 a.val))
        (IntOp.cmpi CmpIPredicate.eq (BitVec.ofNat 32 k.val) (BitVec.ofNat 32 p.val)))
        (IntOp.cmpi CmpIPredicate.eq (BitVec.ofNat 32 k.val) (BitVec.ofNat 32 t.val))))) =
      (((if k = a then 1 else 0) + (if k = p then 1 else 0) + (if k = t then 1 else 0) : ℝ) : EReal) := by
  have one : (FloatOps.sitofp (F := Ideal) FTy.f32 (1#32) : EReal) = ((1 : ℝ) : EReal) := by
    show (((1#32 : BitVec 32).toInt : ℝ) : EReal) = _
    norm_num
  have zero : (FloatOps.sitofp (F := Ideal) FTy.f32 (0#32) : EReal) = ((0 : ℝ) : EReal) := by
    show (((0#32 : BitVec 32).toInt : ℝ) : EReal) = _
    norm_num
  rw [cmpi_column, cmpi_column, cmpi_column]
  by_cases h1 : k = a
  · subst h1
    rw [if_pos rfl, if_neg hap, if_neg hat, if_pos rfl, if_neg hap, if_neg hat]
    exact one.trans (by norm_num)
  · by_cases h2 : k = p
    · subst h2
      rw [if_neg h1, if_pos rfl, if_neg hpt, if_neg h1, if_pos rfl, if_neg hpt]
      exact one.trans (by norm_num)
    · by_cases h3 : k = t
      · subst h3
        rw [if_neg h1, if_neg h2, if_pos rfl, if_neg h1, if_neg h2, if_pos rfl]
        exact one.trans (by norm_num)
      · rw [if_neg h1, if_neg h2, if_neg h3, if_neg h1, if_neg h2, if_neg h3]
        exact zero.trans (by norm_num)

/-- The looked-up sum of the kernel, from the packed tokens `x` and the joint table `tab`. -/
abbrev lookup (x : Vec Ideal S832x1 .i32) (tab : Vec Ideal S108x1024 .f32) : FVec Ideal S832x1024 .f32 :=
  k0_pay27 (k0_pay22 x) (k0_pay23 x) (iota Kind.tc S832x108 32 [1] iota_S832x108_d1_w32)
    (iota Kind.tc S832x108 32 [0] iota_S832x108_d0_w32) (16#32) k0_pay24 k0_pay25 k0_pay26 tab

/-- The column of a position. -/
abbrev posCol (r : Fin 832) : Fin 108 := ⟨r.val / 16 + 52, by omega⟩

/-- The column of a word. -/
abbrev wordCol (a : Fin 50) : Fin 108 := ⟨a.val, by omega⟩

/-- The column of a token type. -/
abbrev typeCol (t : Fin 3) : Fin 108 := ⟨t.val + 105, by omega⟩

/-- The looked-up sum is the sum of the three rows. -/
theorem lookup_apply {x : Vec Ideal S832x1 .i32} {tab : Vec Ideal S108x1024 .f32} {T : Fin 108 → Row}
    (ht : ∀ k h, tab (ix2 k h) = ((T k h : ℝ) : EReal)) (r : Fin 832) (a : Fin 50) (t : Fin 3)
    (ha : IntOp.andi (x (ix2 r 0)) 63#32 = BitVec.ofNat 32 a.val)
    (hs : IntOp.shrsi ArithUnit.vector (x (ix2 r 0)) 6#32 = BitVec.ofNat 32 t.val) (h : Fin 1024) :
    lookup x tab (ix2 r h) = ((T (wordCol a) h + T (posCol r) h + T (typeCol t) h : ℝ) : EReal) := by
  have hs' : IntOp.addi (IntOp.shrsi ArithUnit.vector (x (ix2 r 0)) 6#32) 105#32 =
      BitVec.ofNat 32 (typeCol t).val := by
    rw [hs]; exact (BitVec.ofNat_add _ _).symm
  unfold lookup
  pointwise [k0_pay27, k0_pay22, k0_pay21, k0_pay23, k0_pay24, k0_pay25, k0_pay26]
  rw [ha, hs', position_word]
  have e : ∀ k : Fin 108, _ := fun k => hit_entry k (wordCol a) (posCol r) (typeCol t)
    (by simp only [ne_eq, Fin.mk.injEq]; omega) (by simp only [ne_eq, Fin.mk.injEq]; omega)
    (by simp only [ne_eq, Fin.mk.injEq]; omega)
  simp only [e, ht, ← EReal.coe_mul, coe_sum, add_mul, Finset.sum_add_distrib, ite_mul, one_mul,
    zero_mul, Finset.sum_ite_eq', Finset.sum_ite_eq, Finset.mem_univ, if_true]

/-- What the kernel stores for the 52 text tokens of 16 examples. -/
def textBlock (x : Vec Ideal S832x1 .i32) (tab : Vec Ideal S108x1024 .f32) : FVec Ideal S52x16x1024 .f32 :=
  k0_pay1
    (k0_pay27 (k0_pay22 x) (k0_pay23 x) (iota Kind.tc S832x108 32 [1] iota_S832x108_d1_w32)
      (iota Kind.tc S832x108 32 [0] iota_S832x108_d0_w32) (16#32) k0_pay24 k0_pay25 k0_pay26 tab)
    (k0_pay28 (k0_pay22 x) (k0_pay23 x) (iota Kind.tc S832x108 32 [1] iota_S832x108_d1_w32)
      (iota Kind.tc S832x108 32 [0] iota_S832x108_d0_w32) (16#32) k0_pay24 k0_pay25 k0_pay26 tab)
    (k0_pay29 (k0_pay22 x) (k0_pay23 x) (iota Kind.tc S832x108 32 [1] iota_S832x108_d1_w32)
      (iota Kind.tc S832x108 32 [0] iota_S832x108_d0_w32) (16#32) k0_pay24 k0_pay25 k0_pay26 tab)
    k0_pay30

/-- The row of the lookup that holds token `j` of example `b`. -/
abbrev textRow (j : Fin 52) (b : Fin 16) : Fin 832 := ⟨j.val * 16 + b.val, by omega⟩

/-- The stored block is the layer norm of the looked-up sum. -/
theorem textBlock_apply {x : Vec Ideal S832x1 .i32} {tab : Vec Ideal S108x1024 .f32} {S : Row}
    (j : Fin 52) (b : Fin 16)
    (hs : ∀ h, lookup x tab (ix2 (textRow j b) h) = ((S h : ℝ) : EReal)) (h : Fin 1024) :
    textBlock x tab (ix3 j b h) = ((norm S h : ℝ) : EReal) := by
  have e1 := rsqrt_eps (var_nonneg S)
  rw [var_eq] at e1
  rw [← shortNorm_eq]
  unfold textBlock
  unfold lookup at hs
  pointwise [k0_pay1, k0_pay30, k0_pay29, k0_pay28]
  simp only [hs, ← EReal.coe_mul, coe_sum, word_len, div_len, word_eps, ← EReal.coe_sub,
    ← EReal.coe_add, e1]
  simp only [shortNorm]

/-- What the kernel stores for the image row of 16 examples. -/
def imageBlock (v127 v129 v132 : Vec Ideal S1x1024 .f32) : FVec Ideal S1x16x1024 .f32 :=
  k0_pay20 (k0_pay19 v127) v129 v132

/-- The stored row is the layer norm of the sum of the three table rows. -/
theorem imageBlock_apply {v127 v129 v132 : Vec Ideal S1x1024 .f32} {S : Row}
    (hs : ∀ h, v127 (ix2 0 h) + v129 (ix2 0 h) + v132 (ix2 0 h) = ((S h : ℝ) : EReal))
    (b : Fin 16) (h : Fin 1024) :
    imageBlock v127 v129 v132 (ix3 0 b h) = ((norm S h : ℝ) : EReal) := by
  rw [norm_eq]
  unfold imageBlock
  pointwise [k0_pay20, k0_pay19]
  simp only [hs, coe_sum, word_len, div_len, ← EReal.coe_sub, ← EReal.coe_mul]
  rw [word_eps, ← EReal.coe_add]
  exact congrArg (((S h - mean S : ℝ) : EReal) * ·) (rsqrt_eps (var_nonneg S))

end Cert.Proof

end
-- ==== Proof.Point.lean ====
module

public import proofs.«01_k».proof.Proof.Visual
public import proofs.«01_k».proof.Proof.Text
public import proofs.«01_k».proof.Proof.Gen.KernelIdeal.Frame
public import Idealize.ShloMosaic.Lib.Pipeline.Value

/-!
# The block one point of the grid leaves behind

A point stores three pieces: the text rows, the image row and the region rows.  Together they are
the whole block of 89 rows, and each row is read here from the piece that stored it.
-/

@[expose] public section

noncomputable section

set_option maxRecDepth 16384

namespace Cert.Proof

open Idealize.ShloMosaic Idealize.ShloMosaic.TcCoe Idealize.ShloMosaic.Tactic Cert.KernelIdeal
  Cert.KernelIdeal.Gen

variable (m : (ℓ : Loc nD τ sig) → Buf (Elt Ideal) ℓ)

/-- Row 47 … 104 of the joint table, as the kernel loads a single row. -/
abbrev tabRow (X : Vec Ideal S108x1024 .f32) (r : Nat)
    (inb : ∀ a, (![r, 0] : Fin 2 → Nat) a + S1x1024.size a ≤ S108x1024.size a) : Vec Ideal S1x1024 .f32 :=
  View.ld X (Rect.unit (s := S108x1024) ![r, 0] S1x1024.size inb)

/-- The region rows that a point stores. -/
def pointVis (c : Dev nD) (t : Fin cfg0.N) : FVec Ideal S36x16x1024 .f32 :=
  visBlock
    (View.ld (iblk m c 0 t) (Rect.unit (s := S37x16x2048) ![1, 0, 0] S36x16x2048.size inb_S37x16x2048_S36x16x2048_1_0_0))
    (View.ld (iblk m c 4 t) (Rect.unit (s := S2048x1024) ![0, 0] S2048x1024.size inb_S2048x1024_S2048x1024_0_0))
    (View.ld (iblk m c 1 t) (Rect.unit (s := S37x16x5) ![1, 0, 0] S36x16x5.size inb_S37x16x5_S36x16x5_1_0_0))
    (View.ld (iblk m c 5 t) (Rect.unit (s := S5x1024) ![0, 0] S5x1024.size inb_S5x1024_S5x1024_0_0))
    (tabRow (iblk m c 3 t) 49 inb_S108x1024_S1x1024_49_0)
    (tabRow (iblk m c 3 t) 51 inb_S108x1024_S1x1024_51_0)
    (tabRow (iblk m c 3 t) 104 inb_S108x1024_S1x1024_104_0)

/-- The image row that a point stores. -/
def pointImage (c : Dev nD) (t : Fin cfg0.N) : FVec Ideal S1x16x1024 .f32 :=
  imageBlock
    (tabRow (iblk m c 3 t) 47 inb_S108x1024_S1x1024_47_0)
    (tabRow (iblk m c 3 t) 50 inb_S108x1024_S1x1024_50_0)
    (tabRow (iblk m c 3 t) 104 inb_S108x1024_S1x1024_104_0)

/-- The text rows that a point stores. -/
def pointText (c : Dev nD) (t : Fin cfg0.N) : FVec Ideal S52x16x1024 .f32 :=
  textBlock
    (View.ld (iblk m c 2 t) (Rect.unit (s := S832x1) ![0, 0] S832x1.size inb_S832x1_S832x1_0_0))
    (View.ld (iblk m c 3 t) (Rect.unit (s := S108x1024) ![0, 0] S108x1024.size inb_S108x1024_S108x1024_0_0))

/-- The block after the point is made of the three pieces. -/
theorem outs_eq (c : Dev nD) (t : Fin cfg0.N) : outsAt0 m c t = View.canon
    ([⟨Rect.unit (s := S89x16x1024) ![37, 0, 0] S52x16x1024.size inb_S89x16x1024_S52x16x1024_37_0_0, pointText m c t⟩,
      ⟨Rect.unit (s := S89x16x1024) ![0, 0, 0] S1x16x1024.size inb_S89x16x1024_S1x16x1024_0_0_0, pointImage m c t⟩,
      ⟨Rect.unit (s := S89x16x1024) ![1, 0, 0] S36x16x1024.size inb_S89x16x1024_S36x16x1024_1_0_0, pointVis m c t⟩] :
      List (View.Piece (Elt Ideal) S89x16x1024 .f32)) := by
  unfold outsAt0 out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread,
    (hs0_3 t).read_unread, (hs0_4 t).read_unread, (hs0_5 t).read_unread]
  rfl

/-- A text row of the block. -/
theorem outs_text (c : Dev nD) (t : Fin cfg0.N) (j : Fin 52) (b : Fin 16) (h : Fin 1024) :
    outsAt0 m c t (ix3 (⟨j.val + 37, by omega⟩ : Fin 89) b h) = pointText m c t (ix3 j b h) := by
  rw [outs_eq]
  have e : (ix3 (⟨j.val + 37, by omega⟩ : Fin 89) b h : S89x16x1024.Idx) =
      (Rect.unit (s := S89x16x1024) ![37, 0, 0] S52x16x1024.size inb_S89x16x1024_S52x16x1024_37_0_0).emb (ix3 j b h) := by
    funext a
    match a with
    | ⟨0, _⟩ => exact Fin.ext (by show j.val + 37 = 37 + 1 * j.val; omega)
    | ⟨1, _⟩ => exact Fin.ext (by show b.val = 0 + 1 * b.val; omega)
    | ⟨2, _⟩ => exact Fin.ext (by show h.val = 0 + 1 * h.val; omega)
  rw [e]
  exact View.canon_cons_emb _ _ _ _

/-- The image row of the block. -/
theorem outs_image (c : Dev nD) (t : Fin cfg0.N) (b : Fin 16) (h : Fin 1024) :
    outsAt0 m c t (ix3 (0 : Fin 89) b h) = pointImage m c t (ix3 0 b h) := by
  rw [outs_eq, View.canon_cons_of_not_mem]
  · have e : (ix3 (0 : Fin 89) b h : S89x16x1024.Idx) =
        (Rect.unit (s := S89x16x1024) ![0, 0, 0] S1x16x1024.size inb_S89x16x1024_S1x16x1024_0_0_0).emb (ix3 0 b h) := by
      funext a
      match a with
      | ⟨0, _⟩ => exact Fin.ext (by show 0 = 0 + 1 * 0; omega)
      | ⟨1, _⟩ => exact Fin.ext (by show b.val = 0 + 1 * b.val; omega)
      | ⟨2, _⟩ => exact Fin.ext (by show h.val = 0 + 1 * h.val; omega)
    rw [e]
    exact View.canon_cons_emb _ _ _ _
  · rw [Rect.mem_set_unit]
    intro hm
    have := (hm 0).1
    change 37 ≤ 0 at this
    omega

/-- A region row of the block. -/
theorem outs_vis (c : Dev nD) (t : Fin cfg0.N) (n : Fin 36) (b : Fin 16) (h : Fin 1024) :
    outsAt0 m c t (ix3 (⟨n.val + 1, by omega⟩ : Fin 89) b h) = pointVis m c t (ix3 n b h) := by
  rw [outs_eq, View.canon_cons_of_not_mem, View.canon_cons_of_not_mem]
  · have e : (ix3 (⟨n.val + 1, by omega⟩ : Fin 89) b h : S89x16x1024.Idx) =
        (Rect.unit (s := S89x16x1024) ![1, 0, 0] S36x16x1024.size inb_S89x16x1024_S36x16x1024_1_0_0).emb (ix3 n b h) := by
      funext a
      match a with
      | ⟨0, _⟩ => exact Fin.ext (by show n.val + 1 = 1 + 1 * n.val; omega)
      | ⟨1, _⟩ => exact Fin.ext (by show b.val = 0 + 1 * b.val; omega)
      | ⟨2, _⟩ => exact Fin.ext (by show h.val = 0 + 1 * h.val; omega)
    rw [e]
    exact View.canon_cons_emb _ _ _ _
  · rw [Rect.mem_set_unit]
    intro hm
    have := (hm 0).2
    change n.val + 1 < 0 + 1 at this
    omega
  · rw [Rect.mem_set_unit]
    intro hm
    have := (hm 0).1
    change 37 ≤ n.val + 1 at this
    omega

end Cert.Proof

end
-- ==== Proof.Blocks.lean ====
module

public import proofs.«01_k».proof.Proof.Point

/-!
# Which part of an array a point of the grid sees

Point `t` sees the examples `16 t … 16 t + 15` of the features, of the boxes and of the result, the
rows `832 t … 832 t + 831` of the packed tokens, and the whole of the table and of the two weight
matrices.
-/

@[expose] public section

noncomputable section

set_option maxRecDepth 16384

namespace Cert.Proof

open Idealize.ShloMosaic Idealize.ShloMosaic.TcCoe Idealize.ShloMosaic.Tactic Cert.KernelIdeal
  Cert.KernelIdeal.Gen

variable (m : (ℓ : Loc nD τ sig) → Buf (Elt Ideal) ℓ)

/-- The block numbers of the seven windows at a point. -/
theorem index_facts : ∀ t : Fin cfg0.N,
    (win0_0.index t 0 = 0 ∧ win0_0.index t 1 = t.val ∧ win0_0.index t 2 = 0) ∧
    (win0_1.index t 0 = 0 ∧ win0_1.index t 1 = t.val ∧ win0_1.index t 2 = 0) ∧
    (win0_2.index t 0 = t.val ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0) ∧
    (win0_6.index t 0 = 0 ∧ win0_6.index t 1 = t.val ∧ win0_6.index t 2 = 0) :=
  (by decide +kernel : ∀ t : Fin grid0.N, _)

theorem point_lt (t : Fin cfg0.N) : t.val < 64 := by have h : cfg0.N = 64 := N_0; omega

/-- The example that is number `b` at point `t`. -/
abbrev exAt (t : Fin cfg0.N) (b : Fin 16) : Fin 1024 := ⟨t.val * 16 + b.val, by have := point_lt t; omega⟩

/-- The row of the packed tokens that is number `r` at point `t`. -/
abbrev packAt (t : Fin cfg0.N) (r : Fin 832) : Fin 53248 := ⟨t.val * 832 + r.val, by have := point_lt t; omega⟩

/-- The features a point sees. -/
theorem blk0_apply (c : Dev nD) (t : Fin cfg0.N) (n : Fin 37) (b : Fin 16) (k : Fin 2048) :
    iblk m c 0 t (ix3 n b k) = V m c main_v0 (ix3 n (exAt t b) k) := by
  obtain ⟨⟨e0, e1, e2⟩, -⟩ := index_facts t
  show V m c main_v0 ((win0_0.rect t).emb (ix3 n b k)) = _
  congr 1; funext a
  match a with
  | ⟨0, _⟩ => exact Fin.ext (by show win0_0.index t 0 * 37 + 1 * n.val = n.val; omega)
  | ⟨1, _⟩ => exact Fin.ext (by show win0_0.index t 1 * 16 + 1 * b.val = t.val * 16 + b.val; omega)
  | ⟨2, _⟩ => exact Fin.ext (by show win0_0.index t 2 * 2048 + 1 * k.val = k.val; omega)

/-- The boxes a point sees. -/
theorem blk1_apply (c : Dev nD) (t : Fin cfg0.N) (n : Fin 37) (b : Fin 16) (k : Fin 5) :
    iblk m c 1 t (ix3 n b k) = V m c main_v1 (ix3 n (exAt t b) k) := by
  obtain ⟨-, ⟨e0, e1, e2⟩, -⟩ := index_facts t
  show V m c main_v1 ((win0_1.rect t).emb (ix3 n b k)) = _
  congr 1; funext a
  match a with
  | ⟨0, _⟩ => exact Fin.ext (by show win0_1.index t 0 * 37 + 1 * n.val = n.val; omega)
  | ⟨1, _⟩ => exact Fin.ext (by show win0_1.index t 1 * 16 + 1 * b.val = t.val * 16 + b.val; omega)
  | ⟨2, _⟩ => exact Fin.ext (by show win0_1.index t 2 * 5 + 1 * k.val = k.val; omega)

/-- The packed tokens a point sees. -/
theorem blk2_apply (c : Dev nD) (t : Fin cfg0.N) (r : Fin 832) :
    iblk m c 2 t (ix2 r (0 : Fin 1)) = V m c main_v15 (ix2 (packAt t r) (0 : Fin 1)) := by
  obtain ⟨-, -, ⟨e0, e1⟩, -⟩ := index_facts t
  show V m c main_v15 ((win0_2.rect t).emb (ix2 r 0)) = _
  congr 1; funext a
  match a with
  | ⟨0, _⟩ => exact Fin.ext (by show win0_2.index t 0 * 832 + 1 * r.val = t.val * 832 + r.val; omega)
  | ⟨1, _⟩ => exact Fin.ext (by show win0_2.index t 1 * 1 + 1 * 0 = 0; omega)

/-- The table a point sees. -/
theorem blk3_apply (c : Dev nD) (t : Fin cfg0.N) (k : Fin 108) (h : Fin 1024) :
    iblk m c 3 t (ix2 k h) = V m c main_v6 (ix2 k h) := by
  obtain ⟨-, -, -, ⟨e0, e1⟩, -⟩ := index_facts t
  show V m c main_v6 ((win0_3.rect t).emb (ix2 k h)) = _
  congr 1; funext a
  match a with
  | ⟨0, _⟩ => exact Fin.ext (by show win0_3.index t 0 * 108 + 1 * k.val = k.val; omega)
  | ⟨1, _⟩ => exact Fin.ext (by show win0_3.index t 1 * 1024 + 1 * h.val = h.val; omega)

/-- The feature weights a point sees. -/
theorem blk4_apply (c : Dev nD) (t : Fin cfg0.N) (k : Fin 2048) (h : Fin 1024) :
    iblk m c 4 t (ix2 k h) = V m c main_v3 (ix2 k h) := by
  obtain ⟨-, -, -, -, ⟨e0, e1⟩, -⟩ := index_facts t
  show V m c main_v3 ((win0_4.rect t).emb (ix2 k h)) = _
  congr 1; funext a
  match a with
  | ⟨0, _⟩ => exact Fin.ext (by show win0_4.index t 0 * 2048 + 1 * k.val = k.val; omega)
  | ⟨1, _⟩ => exact Fin.ext (by show win0_4.index t 1 * 1024 + 1 * h.val = h.val; omega)

/-- The box weights a point sees. -/
theorem blk5_apply (c : Dev nD) (t : Fin cfg0.N) (k : Fin 5) (h : Fin 1024) :
    iblk m c 5 t (ix2 k h) = V m c main_v5 (ix2 k h) := by
  obtain ⟨-, -, -, -, -, ⟨e0, e1⟩, -⟩ := index_facts t
  show V m c main_v5 ((win0_5.rect t).emb (ix2 k h)) = _
  congr 1; funext a
  match a with
  | ⟨0, _⟩ => exact Fin.ext (by show win0_5.index t 0 * 5 + 1 * k.val = k.val; omega)
  | ⟨1, _⟩ => exact Fin.ext (by show win0_5.index t 1 * 1024 + 1 * h.val = h.val; omega)

/-- Where an entry of the block of a point lies in the result. -/
theorem emb6 (t : Fin cfg0.N) (k : Fin 89) (b : Fin 16) (h : Fin 1024) :
    (win0_6.rect t).emb (ix3 k b h) = (ix3 k (exAt t b) h : S89x1024x1024.Idx) := by
  obtain ⟨-, -, -, -, -, -, e0, e1, e2⟩ := index_facts t
  funext a
  match a with
  | ⟨0, _⟩ => exact Fin.ext (by show win0_6.index t 0 * 89 + 1 * k.val = k.val; omega)
  | ⟨1, _⟩ => exact Fin.ext (by show win0_6.index t 1 * 16 + 1 * b.val = t.val * 16 + b.val; omega)
  | ⟨2, _⟩ => exact Fin.ext (by show win0_6.index t 2 * 1024 + 1 * h.val = h.val; omega)

/-- Every entry of the result lies in the block of some point. -/
theorem cover6 (i : S89x1024x1024.Idx) :
    ∃ t : Fin cfg0.N, (cfg0.win 6).flush t = true ∧ i ∈ ((cfg0.win 6).blk t).view.set := by
  idx_vars i
  have hN : cfg0.N = 64 := N_0
  obtain ⟨t, ht⟩ : ∃ t : Fin cfg0.N, t.val = i1.val / 16 := ⟨⟨i1.val / 16, by omega⟩, rfl⟩
  refine ⟨t, flush0_6 _, ?_⟩
  have e : (ix3 i0 i1 i2 : S89x1024x1024.Idx) = (win0_6.rect t).emb
      (ix3 i0 (⟨i1.val % 16, by omega⟩ : Fin 16) i2) := by
    rw [emb6]; congr 1; exact Fin.ext (by show i1.val = t.val * 16 + i1.val % 16; omega)
  show _ ∈ ((View.whole main_v16).slice (win0_6.rect _)).set
  rw [View.set_slice_whole, e]
  exact (win0_6.rect t).idx_mem _

/-- The result array of the launch holds `G` when every point stores its part of `G`. -/
theorem array_eq (c : Dev nD) (G : S89x1024x1024.Idx → EReal)
    (hG : ∀ (t : Fin cfg0.N) (k : Fin 89) (b : Fin 16) (h : Fin 1024),
      outsAt0 m c t (ix3 k b h) = G (ix3 k (exAt t b) h)) :
    (dats m 0 c).arrAt 6 cfg0.N = G :=
  (dats m 0 c).arrAt_eq_of_cover 6 G (fun t _ => by
    show (cfg0.win 6).cut (grid0.coords t) ((dats m 0 c).after 6 t) = _
    rw [after0_6]
    funext i
    show outsAt0 m c t i = G ((win0_6.rect t).emb i)
    obtain ⟨k, b, h, rfl⟩ : ∃ (k : Fin 89) (b : Fin 16) (h : Fin 1024), i = ix3 k b h :=
      ⟨i 0, i 1, i 2, by funext a; match a with | ⟨0, _⟩ => rfl | ⟨1, _⟩ => rfl | ⟨2, _⟩ => rfl⟩
    rw [hG]
    exact congrArg G (emb6 t k b h).symm) cover6

end Cert.Proof

end
-- ==== Proof.Given.lean ====
module

public import proofs.«01_k».proof.Pre_as_drawn
public import proofs.«01_k».proof.Proof.Words
public import Idealize.ShloMosaic.Lib.Pointwise
public import Idealize.ShloMosaic.Lib.ReduceAll
public import Idealize.ShloMosaic.Lib.WordCmp

/-!
# What the precondition says of the arguments

The precondition is one conjunction of bits.  Here it is taken apart: every float that reaches the
result is a real number, every id is an index of its table, both linear layers have bias zero, and
every layer norm has gain one and bias zero.
-/

@[expose] public section

noncomputable section

set_option maxRecDepth 16384

namespace Cert.Proof

open Idealize.ShloMosaic

/-- An extended real whose absolute value is below infinity is a real number. -/
theorem real_of_abs_lt {x : EReal} (h : Ideal.cmp .olt (max x (-x)) (Ideal.ofBits .f32 0x7F800000#32) = 1#1) :
    x = ((x.toReal : ℝ) : EReal) := by
  rw [word_inf] at h
  induction x with
  | bot => simp [Ideal.cmp] at h
  | top => simp [Ideal.cmp] at h
  | coe r => rfl

/-- The comparison "equal" as an equation. -/
theorem eq_of_cmp {x y : EReal} (h : Ideal.cmp .oeq x y = 1#1) : x = y := by
  by_contra hne
  simp [Ideal.cmp, hne] at h

/-- The word of one. -/
theorem word_one : Ideal.ofBits .f32 0x3F800000#32 = ((1 : ℝ) : EReal) := by
  simp [Ideal.ofBits, Ideal.ieee, -EReal.coe_mul]; norm_num

/-- The word of zero. -/
theorem word_zero : Ideal.ofBits .f32 0x0#32 = ((0 : ℝ) : EReal) := by
  simp [Ideal.ofBits, Ideal.ieee, -EReal.coe_mul]

/-- A word that lies in `[0, 50)` is one of fifty. -/
theorem word_lt_50 {v : BitVec 32} (h : IntOp.andi (IntOp.cmpi .sge v 0#32) (IntOp.cmpi .slt v 50#32) = 1#1) :
    ∃ a : Fin 50, v = BitVec.ofNat 32 a.val := by
  have h' : v.toNat < 50 := by revert h; word_cmp
  exact ⟨⟨v.toNat, h'⟩, by simp⟩

/-- A word that lies in `[0, 3)` is one of three. -/
theorem word_lt_3 {v : BitVec 32} (h : IntOp.andi (IntOp.cmpi .sge v 0#32) (IntOp.cmpi .slt v 3#32) = 1#1) :
    ∃ a : Fin 3, v = BitVec.ofNat 32 a.val := by
  have h' : v.toNat < 3 := by revert h; word_cmp
  exact ⟨⟨v.toNat, h'⟩, by simp⟩

/-- A conjunction whose second part is an "all" over an array: the first part holds, and the array
    holds at every index. -/
theorem and_all {s t u : Shape} {axes : List (Fin s.rank)} [Subsingleton t.Idx] {w : t.Idx → BitVec 1} {x : s.Idx → BitVec 1}
    {init : u.Idx → BitVec 1} {h : s.ReducesTo axes t} {hu : 0 < u.numel} {j : t.Idx}
    (e : andi w (Host.reduce IntOp.andi x init h hu) j = 1#1) : w j = 1#1 ∧ ∀ i, x i = 1#1 := by
  obtain ⟨h1, h2⟩ := IntOp.andi_eq_one.1 e
  exact ⟨h1, fun i => Host.reduce_andi_all x init h hu j h2 i⟩

/-- What is known of the nineteen arguments. -/
structure Given (x0 : FVec Ideal ⟨3, ![1024, 37, 2048]⟩ .f32) (x1 : FVec Ideal ⟨3, ![1024, 37, 5]⟩ .f32)
    (x2 x3 : IVec ⟨2, ![1024, 52]⟩ 32) (x4 : FVec Ideal ⟨2, ![50, 1024]⟩ .f32) (x5 : FVec Ideal ⟨2, ![54, 1024]⟩ .f32)
    (x6 : FVec Ideal ⟨2, ![4, 1024]⟩ .f32) (x7 : FVec Ideal ⟨2, ![1024, 2048]⟩ .f32) (x8 : FVec Ideal ⟨1, ![1024]⟩ .f32)
    (x9 : FVec Ideal ⟨2, ![1024, 5]⟩ .f32) (x10 x11 x12 x13 x14 x15 x16 x17 x18 : FVec Ideal ⟨1, ![1024]⟩ .f32) : Prop where
  img : ∀ (b : Fin 1024) (n : Fin 36) (k : Fin 2048),
    x0 (ix3 b (⟨n.val + 1, by omega⟩ : Fin 37) k) = ((x0 (ix3 b (⟨n.val + 1, by omega⟩ : Fin 37) k)).toReal : EReal)
  loc : ∀ (b : Fin 1024) (n : Fin 36) (k : Fin 5),
    x1 (ix3 b (⟨n.val + 1, by omega⟩ : Fin 37) k) = ((x1 (ix3 b (⟨n.val + 1, by omega⟩ : Fin 37) k)).toReal : EReal)
  imgW : ∀ i, x7 i = ((x7 i).toReal : EReal)
  locW : ∀ i, x9 i = ((x9 i).toReal : EReal)
  word : ∀ i, x4 i = ((x4 i).toReal : EReal)
  pos : ∀ i, x5 i = ((x5 i).toReal : EReal)
  tok : ∀ i, x6 i = ((x6 i).toReal : EReal)
  ids : ∀ i, ∃ a : Fin 50, x2 i = BitVec.ofNat 32 a.val
  types : ∀ i, ∃ a : Fin 3, x3 i = BitVec.ofNat 32 a.val
  imgB : ∀ i, x8 i = ((0 : ℝ) : EReal)
  locB : ∀ i, x10 i = ((0 : ℝ) : EReal)
  g11 : ∀ i, x11 i = ((1 : ℝ) : EReal)
  b12 : ∀ i, x12 i = ((0 : ℝ) : EReal)
  g13 : ∀ i, x13 i = ((1 : ℝ) : EReal)
  b14 : ∀ i, x14 i = ((0 : ℝ) : EReal)
  g15 : ∀ i, x15 i = ((1 : ℝ) : EReal)
  b16 : ∀ i, x16 i = ((0 : ℝ) : EReal)
  g17 : ∀ i, x17 i = ((1 : ℝ) : EReal)
  b18 : ∀ i, x18 i = ((0 : ℝ) : EReal)

open Cert.Pre_as_drawn

instance : Subsingleton S_.Idx := ⟨fun a b => funext fun i => i.elim0⟩

/-- The precondition, taken apart. -/
theorem given_of_fn [Cert.Pre_as_drawn.Facts] {x0 : FVec Ideal S1024x37x2048 .f32} {x1 : FVec Ideal S1024x37x5 .f32}
    {x2 x3 : IVec S1024x52 32} {x4 : FVec Ideal S50x1024 .f32} {x5 : FVec Ideal S54x1024 .f32}
    {x6 : FVec Ideal S4x1024 .f32} {x7 : FVec Ideal S1024x2048 .f32} {x8 : FVec Ideal S1024 .f32}
    {x9 : FVec Ideal S1024x5 .f32} {x10 x11 x12 x13 x14 x15 x16 x17 x18 : FVec Ideal S1024 .f32}
    (e : fn x0 x1 x2 x3 x4 x5 x6 x7 x8 x9 x10 x11 x12 x13 x14 x15 x16 x17 x18 = fun _ => 1#1) :
    Given x0 x1 x2 x3 x4 x5 x6 x7 x8 x9 x10 x11 x12 x13 x14 x15 x16 x17 x18 := by
  have h : fn x0 x1 x2 x3 x4 x5 x6 x7 x8 x9 x10 x11 x12 x13 x14 x15 x16 x17 x18 (fun i => i.elim0) = 1#1 := congrFun e _
  unfold fn fn_part1 fn_part2 fn_part3 fn_part4 fn_part5 at h
  dsimp only at h
  obtain ⟨h, h18⟩ := and_all h
  obtain ⟨h, h17⟩ := and_all h
  obtain ⟨h, h16⟩ := and_all h
  obtain ⟨h, h15⟩ := and_all h
  obtain ⟨h, h14⟩ := and_all h
  obtain ⟨h, h13⟩ := and_all h
  obtain ⟨h, h12⟩ := and_all h
  obtain ⟨h, h11⟩ := and_all h
  obtain ⟨h, h10⟩ := and_all h
  obtain ⟨h, h8⟩ := and_all h
  obtain ⟨h, h3⟩ := and_all h
  obtain ⟨h, h2⟩ := and_all h
  obtain ⟨h, h6⟩ := and_all h
  obtain ⟨h, h5⟩ := and_all h
  obtain ⟨h, h4⟩ := and_all h
  obtain ⟨h, h9⟩ := and_all h
  obtain ⟨h, h7⟩ := and_all h
  obtain ⟨h, h1⟩ := and_all h
  have h0 := Host.reduce_andi_all _ _ _ _ _ h
  refine ⟨fun b n k => ?_, fun b n k => ?_, fun i => real_of_abs_lt (h7 i), fun i => real_of_abs_lt (h9 i), fun i => real_of_abs_lt (h4 i),
    fun i => real_of_abs_lt (h5 i), fun i => real_of_abs_lt (h6 i), fun i => word_lt_50 (h2 i), fun i => word_lt_3 (h3 i),
    fun i => word_zero ▸ eq_of_cmp (h8 i), fun i => word_zero ▸ eq_of_cmp (h10 i), fun i => word_one ▸ eq_of_cmp (h11 i),
    fun i => word_zero ▸ eq_of_cmp (h12 i), fun i => word_one ▸ eq_of_cmp (h13 i), fun i => word_zero ▸ eq_of_cmp (h14 i),
    fun i => word_one ▸ eq_of_cmp (h15 i), fun i => word_zero ▸ eq_of_cmp (h16 i), fun i => word_one ▸ eq_of_cmp (h17 i),
    fun i => word_zero ▸ eq_of_cmp (h18 i)⟩
  · have := h0 (ix3 b n k)
    pointwise at this
    simp only [Nat.add_comm 1] at this
    exact real_of_abs_lt this
  · have := h1 (ix3 b n k)
    pointwise at this
    simp only [Nat.add_comm 1] at this
    exact real_of_abs_lt this

end Cert.Proof

end
-- ==== Proof.Spec.lean ====
module

public import proofs.«01_k».proof.Proof.Given

/-!
# The embedding layer as real arithmetic

What both programs compute, row by row, written once over the real numbers behind the arguments.
Row 0 is the image token, rows 1 … 36 are the regions, rows 37 … 88 are the text.
-/

@[expose] public section

noncomputable section

namespace Cert.Proof

open Idealize.ShloMosaic

/-- The image features as the arguments hold them. -/
abbrev Feats := FVec Ideal ⟨3, ![1024, 37, 2048]⟩ .f32
/-- The boxes. -/
abbrev Boxes := FVec Ideal ⟨3, ![1024, 37, 5]⟩ .f32
/-- Token ids and token types. -/
abbrev Ids := IVec ⟨2, ![1024, 52]⟩ 32
/-- A table of rows of length 1024. -/
abbrev Tab (n : Nat) := FVec Ideal ⟨2, ![n, 1024]⟩ .f32
/-- The weights of a linear layer with `n` inputs. -/
abbrev Wt (n : Nat) := FVec Ideal ⟨2, ![1024, n]⟩ .f32

/-- The position of region `n` among the 37 regions. -/
abbrev regionAt (n : Fin 36) : Fin 37 := ⟨n.val + 1, by omega⟩

/-- The projected features of region `n`. -/
def featRow (x0 : Feats) (x7 : Wt 2048) (b : Fin 1024) (n : Fin 36) : Row :=
  fun h => ∑ k : Fin 2048, (x0 (ix3 b (regionAt n) k)).toReal * (x7 (ix2 h k)).toReal

/-- The projected box of region `n`. -/
def boxRow (x1 : Boxes) (x9 : Wt 5) (b : Fin 1024) (n : Fin 36) : Row :=
  fun h => ∑ k : Fin 5, (x1 (ix3 b (regionAt n) k)).toReal * (x9 (ix2 h k)).toReal

/-- The sum of a word row, a position row and a type row. -/
def tokenRow (x4 : Tab 50) (x5 : Tab 54) (x6 : Tab 4) (a : Fin 50) (p : Fin 54) (t : Fin 4) : Row :=
  fun h => (x4 (ix2 a h)).toReal + (x5 (ix2 p h)).toReal + (x6 (ix2 t h)).toReal

/-- The word of text column `j`: the first column always holds word 48. -/
def idAt (x2 : Ids) (b : Fin 1024) (j : Fin 52) : Fin 50 :=
  if j = 0 then 48 else ⟨(x2 (ix2 b j)).toNat % 50, Nat.mod_lt _ (by decide)⟩

/-- The type of text column `j`. -/
def typeAt (x3 : Ids) (b : Fin 1024) (j : Fin 52) : Fin 3 :=
  ⟨(x3 (ix2 b j)).toNat % 3, Nat.mod_lt _ (by decide)⟩

/-- The normed sum of the normed features and the normed box. -/
def regionRow (x0 : Feats) (x1 : Boxes) (x7 : Wt 2048) (x9 : Wt 5) (b : Fin 1024) (n : Fin 36) : Row :=
  norm fun h => norm (featRow x0 x7 b n) h + norm (boxRow x1 x9 b n) h

/-- What is normed at the end: in row `k` of example `b`. -/
def rawRow (x0 : Feats) (x1 : Boxes) (x2 x3 : Ids) (x4 : Tab 50) (x5 : Tab 54) (x6 : Tab 4) (x7 : Wt 2048) (x9 : Wt 5)
    (b : Fin 1024) (k : Fin 89) : Row :=
  if k.val = 0 then tokenRow x4 x5 x6 47 0 0
  else if hk : k.val < 37 then fun h => tokenRow x4 x5 x6 49 1 0 h + regionRow x0 x1 x7 x9 b ⟨k.val - 1, by omega⟩ h
  else tokenRow x4 x5 x6 (idAt x2 b ⟨k.val - 37, by omega⟩) ⟨k.val - 37 + 2, by omega⟩
    ⟨(typeAt x3 b ⟨k.val - 37, by omega⟩).val + 1, by omega⟩

/-- The whole layer. -/
def layer (x0 : Feats) (x1 : Boxes) (x2 x3 : Ids) (x4 : Tab 50) (x5 : Tab 54) (x6 : Tab 4) (x7 : Wt 2048) (x9 : Wt 5)
    (b : Fin 1024) (k : Fin 89) : Row :=
  norm (rawRow x0 x1 x2 x3 x4 x5 x6 x7 x9 b k)

section
variable (x0 : Feats) (x1 : Boxes) (x2 x3 : Ids) (x4 : Tab 50) (x5 : Tab 54) (x6 : Tab 4) (x7 : Wt 2048) (x9 : Wt 5)
  (b : Fin 1024)

/-- The row of the image token. -/
theorem rawRow_image : rawRow x0 x1 x2 x3 x4 x5 x6 x7 x9 b 0 = tokenRow x4 x5 x6 47 0 0 := rfl

/-- The row of a region. -/
theorem rawRow_region (n : Fin 36) : rawRow x0 x1 x2 x3 x4 x5 x6 x7 x9 b ⟨n.val + 1, by omega⟩ =
    fun h => tokenRow x4 x5 x6 49 1 0 h + regionRow x0 x1 x7 x9 b n h := by
  unfold rawRow
  rw [if_neg (Nat.succ_ne_zero _), dif_pos (show n.val + 1 < 37 by omega)]
  rfl

/-- The row of a text column. -/
theorem rawRow_text (j : Fin 52) : rawRow x0 x1 x2 x3 x4 x5 x6 x7 x9 b ⟨j.val + 37, by omega⟩ =
    tokenRow x4 x5 x6 (idAt x2 b j) ⟨j.val + 2, by omega⟩ ⟨(typeAt x3 b j).val + 1, by omega⟩ := by
  unfold rawRow
  rw [if_neg (show ¬ j.val + 37 = 0 by omega), dif_neg (show ¬ j.val + 37 < 37 by omega)]
  simp only [Nat.add_sub_cancel]

end

/-- Every row is the image row, a region row or a text row. -/
theorem row_cases (k : Fin 89) : k = 0 ∨ (∃ n : Fin 36, k = ⟨n.val + 1, by omega⟩) ∨
    ∃ j : Fin 52, k = ⟨j.val + 37, by omega⟩ := by
  by_cases h0 : k.val = 0
  · exact .inl (Fin.ext h0)
  · by_cases h1 : k.val < 37
    · exact .inr (.inl ⟨⟨k.val - 1, by omega⟩, Fin.ext (by show k.val = k.val - 1 + 1; omega)⟩)
    · exact .inr (.inr ⟨⟨k.val - 37, by omega⟩, Fin.ext (by show k.val = k.val - 37 + 37; omega)⟩)

section
variable {x0 : Feats} {x1 : Boxes} {x2 x3 : Ids} {x4 : Tab 50} {x5 : Tab 54} {x6 : Tab 4} {x7 : Wt 2048}
  {x8 : FVec Ideal ⟨1, ![1024]⟩ .f32} {x9 : Wt 5} {x10 x11 x12 x13 x14 x15 x16 x17 x18 : FVec Ideal ⟨1, ![1024]⟩ .f32}

/-- The projected features, computed on the arguments. -/
theorem Given.feat (g : Given x0 x1 x2 x3 x4 x5 x6 x7 x8 x9 x10 x11 x12 x13 x14 x15 x16 x17 x18)
    (b : Fin 1024) (n : Fin 36) (h : Fin 1024) :
    (∑ k : Fin 2048, x0 (ix3 b (regionAt n) k) * x7 (ix2 h k)) = ((featRow x0 x7 b n h : ℝ) : EReal) := by
  unfold featRow
  rw [← coe_sum]
  refine Finset.sum_congr rfl fun k _ => ?_
  rw [EReal.coe_mul, ← g.img b n k, ← g.imgW]

/-- The projected box, computed on the arguments. -/
theorem Given.box (g : Given x0 x1 x2 x3 x4 x5 x6 x7 x8 x9 x10 x11 x12 x13 x14 x15 x16 x17 x18)
    (b : Fin 1024) (n : Fin 36) (h : Fin 1024) :
    (∑ k : Fin 5, x1 (ix3 b (regionAt n) k) * x9 (ix2 h k)) = ((boxRow x1 x9 b n h : ℝ) : EReal) := by
  unfold boxRow
  rw [← coe_sum]
  refine Finset.sum_congr rfl fun k _ => ?_
  rw [EReal.coe_mul, ← g.loc b n k, ← g.locW]

/-- A sum of three table entries, computed on the arguments. -/
theorem Given.token (g : Given x0 x1 x2 x3 x4 x5 x6 x7 x8 x9 x10 x11 x12 x13 x14 x15 x16 x17 x18)
    (a : Fin 50) (p : Fin 54) (t : Fin 4) (h : Fin 1024) :
    x4 (ix2 a h) + x5 (ix2 p h) + x6 (ix2 t h) = ((tokenRow x4 x5 x6 a p t h : ℝ) : EReal) := by
  unfold tokenRow
  rw [EReal.coe_add, EReal.coe_add, ← g.word, ← g.pos, ← g.tok]

/-- The word of a text column after the first is the argument's. -/
theorem Given.id (g : Given x0 x1 x2 x3 x4 x5 x6 x7 x8 x9 x10 x11 x12 x13 x14 x15 x16 x17 x18)
    (b : Fin 1024) (j : Fin 52) :
    (if j = 0 then 48#32 else x2 (ix2 b j)) = BitVec.ofNat 32 (idAt x2 b j).val := by
  unfold idAt
  by_cases hj : j = 0
  · rw [if_pos hj, if_pos hj]; rfl
  · rw [if_neg hj, if_neg hj]
    obtain ⟨a, ha⟩ := g.ids (ix2 b j)
    have : (x2 (ix2 b j)).toNat = a.val := by rw [ha, BitVec.toNat_ofNat]; omega
    show _ = BitVec.ofNat 32 ((x2 (ix2 b j)).toNat % 50)
    rw [this, Nat.mod_eq_of_lt a.isLt, ha]

/-- The type of a text column is the argument's. -/
theorem Given.type (g : Given x0 x1 x2 x3 x4 x5 x6 x7 x8 x9 x10 x11 x12 x13 x14 x15 x16 x17 x18)
    (b : Fin 1024) (j : Fin 52) : x3 (ix2 b j) = BitVec.ofNat 32 (typeAt x3 b j).val := by
  obtain ⟨a, ha⟩ := g.types (ix2 b j)
  have : (x3 (ix2 b j)).toNat = a.val := by rw [ha, BitVec.toNat_ofNat]; omega
  show _ = BitVec.ofNat 32 ((x3 (ix2 b j)).toNat % 3)
  rw [this, Nat.mod_eq_of_lt a.isLt, ha]

end

end Cert.Proof

end
-- ==== Proof.Columns.lean ====
module

public import proofs.«01_k».proof.Proof.Spec
public import Idealize.ShloMosaic.Lib.Routing.OpsOne

/-!
# Setting the first column

Both programs overwrite the first column of an array of ids by one word.
-/

@[expose] public section

noncomputable section

namespace Cert.Proof

open Idealize.ShloMosaic

/-- The array with its first column set to the word `w`. -/
theorem first_column {N : Nat} [NeZero N] (d : ScatterDims ⟨2, ![1024, N]⟩ ⟨1, ![1]⟩ ⟨1, ![1024]⟩)
    (hiw : d.insertedWindowDims = [1]) (hsd : d.scatterDimsToOperandDims = [1])
    (x0 : IVec ⟨2, ![1024, N]⟩ 32) (idx : IVec ⟨1, ![1]⟩ 32) (upd : IVec ⟨1, ![1024]⟩ 32) (w : BitVec 32)
    (hidx : ∀ i, idx i = 0#32) (hupd : ∀ i, upd i = w) (b : Fin 1024) (j : Fin N) :
    Host.scatter d (fun _ v => v) x0 idx upd (ix2 b j) = if j = 0 then w else x0 (ix2 b j) := by
  have key := Routing.scatter_col d hiw hsd x0 idx upd (0 : Fin N) (by simp) (by rw [hidx]; simp) b j
  rw [hupd] at key
  exact key

end Cert.Proof

end
-- ==== Proof.Inputs.lean ====
module

public import proofs.«01_k».proof.Proof.Columns
public import proofs.«01_k».proof.Proof.Gen.KernelIdeal.Frame
public import Idealize.ShloMosaic.Lib.StableHlo.ReadAt

/-!
# The arrays the launch is given

What the steps before the launch leave in its six inputs, entry by entry: features and boxes with the
first two axes exchanged, the two weight matrices transposed, the three tables stacked, and one word per
text token that holds both its id and its type.
-/

@[expose] public section

noncomputable section

set_option maxRecDepth 16384

namespace Cert.Proof

open Idealize.ShloMosaic Idealize.ShloMosaic.TcCoe Idealize.ShloMosaic.Tactic Cert.KernelIdeal
  Cert.KernelIdeal.Gen

variable (m : (ℓ : Loc nD τ sig) → Buf (Elt Ideal) ℓ) (c : Dev nD)

/-- The features, regions first. -/
theorem v0_apply (n : Fin 37) (b : Fin 1024) (k : Fin 2048) :
    V m c main_v0 (ix3 n b k) = (m ((c : Thread nD τ).loc main_arg0)) (ix3 b n k) := by
  unfold V V0
  after_reads_at

/-- The boxes, regions first. -/
theorem v1_apply (n : Fin 37) (b : Fin 1024) (k : Fin 5) :
    V m c main_v1 (ix3 n b k) = (m ((c : Thread nD τ).loc main_arg1)) (ix3 b n k) := by
  unfold V V0
  after_reads_at

/-- The transposed weights of the features. -/
theorem v3_apply (k : Fin 2048) (h : Fin 1024) :
    V m c main_v3 (ix2 k h) = (m ((c : Thread nD τ).loc main_arg7)) (ix2 h k) := by
  unfold V V0
  after_reads_at

/-- The transposed weights of the boxes. -/
theorem v5_apply (k : Fin 5) (h : Fin 1024) :
    V m c main_v5 (ix2 k h) = (m ((c : Thread nD τ).loc main_arg9)) (ix2 h k) := by
  unfold V V0
  after_reads_at

/-- The stacked tables: the word rows come first. -/
theorem v6_word (a : Fin 50) (h : Fin 1024) :
    V m c main_v6 (ix2 (⟨a.val, by omega⟩ : Fin 108) h) = (m ((c : Thread nD τ).loc main_arg4)) (ix2 a h) := by
  unfold V V0
  after_reads_at

/-- The stacked tables: the position rows follow. -/
theorem v6_pos (p : Fin 54) (h : Fin 1024) :
    V m c main_v6 (ix2 (⟨p.val + 50, by omega⟩ : Fin 108) h) = (m ((c : Thread nD τ).loc main_arg5)) (ix2 p h) := by
  unfold V V0
  after_reads_at
  rw [dif_neg (show ¬ p.val + 50 < 50 by omega), dif_pos (show p.val + 50 - 50 < 54 by omega)]
  simp only [Nat.add_sub_cancel]

/-- The stacked tables: the type rows are last. -/
theorem v6_tok (t : Fin 4) (h : Fin 1024) :
    V m c main_v6 (ix2 (⟨t.val + 104, by omega⟩ : Fin 108) h) = (m ((c : Thread nD τ).loc main_arg6)) (ix2 t h) := by
  unfold V V0
  after_reads_at
  rw [dif_neg (show ¬ t.val + 104 < 50 by omega), dif_neg (show ¬ t.val + 104 - 50 < 54 by omega)]
  congr 2

/-- The packed word of text token `j` of example `t * 16 + b`. -/
theorem v15_apply (r : Fin 53248) :
    V m c main_v15 (ix2 r (0 : Fin 1)) =
      IntOp.ori
        (if (⟨r.val / 16 % 52, Nat.mod_lt _ (by decide)⟩ : Fin 52) = 0 then 48#32
          else (m ((c : Thread nD τ).loc main_arg2))
            (ix2 (⟨r.val / 832 * 16 + r.val % 16, by omega⟩ : Fin 1024) (⟨r.val / 16 % 52, Nat.mod_lt _ (by decide)⟩ : Fin 52)))
        (IntOp.shli ArithUnit.host ((m ((c : Thread nD τ).loc main_arg3))
            (ix2 (⟨r.val / 832 * 16 + r.val % 16, by omega⟩ : Fin 1024) (⟨r.val / 16 % 52, Nat.mod_lt _ (by decide)⟩ : Fin 52))) 6#32) := by
  unfold V V0
  after_reads_at
  exact congrArg₂ IntOp.ori (first_column scatter_S1024x52_S1_S1024_0_1_1_0 rfl rfl _
    (broadcastInDim S1 ![] bcast_S_S1 (constantI S_ 32 0#32)) (broadcastInDim S1024 ![] bcast_S_S1024 (constantI S_ 32 48#32))
    48#32 (fun _ => rfl) (fun _ => rfl) _ _) rfl

/-- The two parts of a packed word. -/
theorem packed : ∀ (a : Fin 50) (t : Fin 3),
    IntOp.andi (IntOp.ori (BitVec.ofNat 32 a.val) (IntOp.shli ArithUnit.host (BitVec.ofNat 32 t.val) 6#32)) 63#32 =
        BitVec.ofNat 32 a.val ∧
      IntOp.shrsi ArithUnit.vector
        (IntOp.ori (BitVec.ofNat 32 a.val) (IntOp.shli ArithUnit.host (BitVec.ofNat 32 t.val) 6#32)) 6#32 =
        BitVec.ofNat 32 t.val := by
  decide +kernel

end Cert.Proof

end
-- ==== Proof.Stored.lean ====
module

public import proofs.«01_k».proof.Proof.Point
public import proofs.«01_k».proof.Proof.Blocks
public import proofs.«01_k».proof.Proof.Inputs

/-!
# What every grid point stores

At every entry of its block a grid point stores the entry of the layer that the real arithmetic names.
-/

@[expose] public section

noncomputable section

set_option maxRecDepth 16384

namespace Cert.Proof

open Idealize.ShloMosaic Idealize.ShloMosaic.TcCoe Idealize.ShloMosaic.Tactic Cert.KernelIdeal
  Cert.KernelIdeal.Gen

variable (m : (ℓ : Loc nD τ sig) → Buf (Elt Ideal) ℓ)

/-- The arguments of a device satisfy what is asked of them. -/
abbrev GivenAt (c : Dev nD) : Prop :=
  Given (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18))

/-- The layer on the arguments of a device. -/
abbrev layerAt (c : Dev nD) : Fin 1024 → Fin 89 → Row :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg9))

/-- A load of one row of the table. -/
theorem tabRow_apply (X : Vec Ideal S108x1024 .f32) (r : Fin 108)
    (inb : ∀ a, (![r.val, 0] : Fin 2 → Nat) a + S1x1024.size a ≤ S108x1024.size a) (h : Fin 1024) :
    tabRow X r.val inb (ix2 0 h) = X (ix2 r h) := by
  show X ((Rect.unit (s := S108x1024) ![r.val, 0] S1x1024.size inb).emb (ix2 0 h)) = _
  congr 1; funext a
  match a with
  | ⟨0, _⟩ => exact Fin.ext (by show r.val + 1 * 0 = r.val; omega)
  | ⟨1, _⟩ => exact Fin.ext (by show 0 + 1 * h.val = h.val; omega)

/-- A load of a whole matrix. -/
theorem ld_whole {n k : Nat} {α : EltTy} (X : Vec Ideal (⟨2, ![n, k]⟩ : Shape) α)
    (inb : ∀ a, (![0, 0] : Fin 2 → Nat) a + (⟨2, ![n, k]⟩ : Shape).size a ≤ (⟨2, ![n, k]⟩ : Shape).size a) (r : Fin n) (h : Fin k) :
    View.ld X (Rect.unit (s := (⟨2, ![n, k]⟩ : Shape)) ![0, 0] (⟨2, ![n, k]⟩ : Shape).size inb) (ix2 r h) = X (ix2 r h) := by
  show X ((Rect.unit (s := (⟨2, ![n, k]⟩ : Shape)) ![0, 0] (⟨2, ![n, k]⟩ : Shape).size inb).emb (ix2 r h)) = _
  congr 1; funext a
  match a with
  | ⟨0, _⟩ => exact Fin.ext (by show 0 + 1 * r.val = r.val; omega)
  | ⟨1, _⟩ => exact Fin.ext (by show 0 + 1 * h.val = h.val; omega)

/-- A load of the last 36 of 37 regions. -/
theorem ld_regions {k : Nat} {α : EltTy} (X : Vec Ideal (⟨3, ![37, 16, k]⟩ : Shape) α)
    (inb : ∀ a, (![1, 0, 0] : Fin 3 → Nat) a + (⟨3, ![36, 16, k]⟩ : Shape).size a ≤ (⟨3, ![37, 16, k]⟩ : Shape).size a)
    (n : Fin 36) (b : Fin 16) (h : Fin k) :
    View.ld X (Rect.unit (s := (⟨3, ![37, 16, k]⟩ : Shape)) ![1, 0, 0] (⟨3, ![36, 16, k]⟩ : Shape).size inb) (ix3 n b h) =
      X (ix3 (regionAt n) b h) := by
  show X ((Rect.unit (s := (⟨3, ![37, 16, k]⟩ : Shape)) ![1, 0, 0] (⟨3, ![36, 16, k]⟩ : Shape).size inb).emb (ix3 n b h)) = _
  congr 1; funext a
  match a with
  | ⟨0, _⟩ => exact Fin.ext (by show 1 + 1 * n.val = n.val + 1; omega)
  | ⟨1, _⟩ => exact Fin.ext (by show 0 + 1 * b.val = b.val; omega)
  | ⟨2, _⟩ => exact Fin.ext (by show 0 + 1 * h.val = h.val; omega)

/-- The projection of the features, row by row. -/
theorem pay2_apply (v0 : Vec Ideal S36x16x2048 .f32) (v4 : Vec Ideal S2048x1024 .f32) (r : Fin 576) (h : Fin 1024) :
    k0_pay2 v0 v4 (ix2 r h) = ∑ k : Fin 2048,
      v0 (ix3 (⟨r.val / 16, by omega⟩ : Fin 36) (⟨r.val % 16, Nat.mod_lt _ (by decide)⟩ : Fin 16) k) * v4 (ix2 k h) := by
  pointwise [k0_pay2]

/-- The projection of the boxes, row by row. -/
theorem pay3_apply (v7 : Vec Ideal S36x16x5 .f32) (v11 : Vec Ideal S5x1024 .f32) (r : Fin 576) (h : Fin 1024) :
    k0_pay3 v7 v11 (ix2 r h) = ∑ k : Fin 5,
      v7 (ix3 (⟨r.val / 16, by omega⟩ : Fin 36) (⟨r.val % 16, Nat.mod_lt _ (by decide)⟩ : Fin 16) k) * v11 (ix2 k h) := by
  pointwise [k0_pay3]

/-- The table a point sees. -/
abbrev seenTable (c : Dev nD) (t : Fin cfg0.N) : Vec Ideal S108x1024 .f32 := iblk m c 3 t

/-- It is the stacked table. -/
theorem seen_apply (c : Dev nD) (t : Fin cfg0.N) (k : Fin 108) (h : Fin 1024) :
    seenTable m c t (ix2 k h) = V m c main_v6 (ix2 k h) := blk3_apply m c t k h

/-- The sum of a word row, a position row and a type row of the table a point sees. -/
theorem table_sum {c : Dev nD} (g : GivenAt m c) (t : Fin cfg0.N) (a : Fin 50) (p : Fin 54) (k : Fin 4) (h : Fin 1024) :
    seenTable m c t (ix2 (⟨a.val, by omega⟩ : Fin 108) h) + seenTable m c t (ix2 (⟨p.val + 50, by omega⟩ : Fin 108) h)
      + seenTable m c t (ix2 (⟨k.val + 104, by omega⟩ : Fin 108) h) =
    ((tokenRow (m ((c : Thread nD τ).loc main_arg4)) (m ((c : Thread nD τ).loc main_arg5))
      (m ((c : Thread nD τ).loc main_arg6)) a p k h : ℝ) : EReal) := by
  rw [seen_apply, seen_apply, seen_apply, v6_word, v6_pos, v6_tok]
  exact g.token a p k h

/-- The image row of a point. -/
theorem stored_image {c : Dev nD} (g : GivenAt m c) (t : Fin cfg0.N) (b : Fin 16) (h : Fin 1024) :
    pointImage m c t (ix3 0 b h) = ((layerAt m c (exAt t b) 0 h : ℝ) : EReal) := by
  unfold pointImage
  refine imageBlock_apply (fun h => ?_) b h
  refine Eq.trans ?_ (table_sum m g t 47 0 0 h)
  exact congrArg₂ _ (congrArg₂ _ (tabRow_apply _ (47 : Fin 108) _ h) (tabRow_apply _ (50 : Fin 108) _ h))
    (tabRow_apply _ (104 : Fin 108) _ h)

/-- The region rows of a point. -/
theorem stored_region {c : Dev nD} (g : GivenAt m c) (t : Fin cfg0.N) (n : Fin 36) (b : Fin 16) (h : Fin 1024) :
    pointVis m c t (ix3 n b h) = ((layerAt m c (exAt t b) ⟨n.val + 1, by omega⟩ h : ℝ) : EReal) := by
  unfold pointVis layerAt layer
  rw [rawRow_region]
  refine (visBlock_apply
    (Y := fun r => featRow (m ((c : Thread nD τ).loc main_arg0)) (m ((c : Thread nD τ).loc main_arg7))
      (exAt t ⟨r.val % 16, Nat.mod_lt _ (by decide)⟩) ⟨r.val / 16, by omega⟩)
    (L := fun r => boxRow (m ((c : Thread nD τ).loc main_arg1)) (m ((c : Thread nD τ).loc main_arg9))
      (exAt t ⟨r.val % 16, Nat.mod_lt _ (by decide)⟩) ⟨r.val / 16, by omega⟩)
    (K := tokenRow (m ((c : Thread nD τ).loc main_arg4)) (m ((c : Thread nD τ).loc main_arg5))
      (m ((c : Thread nD τ).loc main_arg6)) 49 1 0) (fun r h => ?_) (fun r h => ?_) (fun h => ?_) n b h).trans ?_
  · rw [pay2_apply, ← g.feat]
    refine Finset.sum_congr rfl fun k _ => ?_
    refine congrArg₂ _ ?_ ?_
    · exact (ld_regions _ _ _ _ _).trans ((blk0_apply m c t _ _ _).trans (v0_apply m c _ _ _))
    · exact (ld_whole _ _ _ _).trans ((blk4_apply m c t _ _).trans (v3_apply m c _ _))
  · rw [pay3_apply, ← g.box]
    refine Finset.sum_congr rfl fun k _ => ?_
    refine congrArg₂ _ ?_ ?_
    · exact (ld_regions _ _ _ _ _).trans ((blk1_apply m c t _ _ _).trans (v1_apply m c _ _ _))
    · exact (ld_whole _ _ _ _).trans ((blk5_apply m c t _ _).trans (v5_apply m c _ _))
  · refine Eq.trans ?_ (table_sum m g t 49 1 0 h)
    exact congrArg₂ _ (congrArg₂ _ (tabRow_apply _ (49 : Fin 108) _ h) (tabRow_apply _ (51 : Fin 108) _ h))
      (tabRow_apply _ (104 : Fin 108) _ h)
  · have e1 : (⟨(visRow n b).val % 16, Nat.mod_lt _ (by decide)⟩ : Fin 16) = b :=
      Fin.ext (by show (n.val * 16 + b.val) % 16 = b.val; omega)
    have e2 : (⟨(visRow n b).val / 16, by omega⟩ : Fin 36) = n :=
      Fin.ext (by show (n.val * 16 + b.val) / 16 = n.val; omega)
    simp only [e1, e2, regionRow]

/-- The joint table of a point as real numbers. -/
def realTable (c : Dev nD) (t : Fin cfg0.N) (k : Fin 108) : Row := fun h => (seenTable m c t (ix2 k h)).toReal

/-- Every entry of the table a point sees is real. -/
theorem realTable_eq {c : Dev nD} (g : GivenAt m c) (t : Fin cfg0.N) (k : Fin 108) (h : Fin 1024) :
    seenTable m c t (ix2 k h) = ((realTable m c t k h : ℝ) : EReal) := by
  unfold realTable
  rw [seen_apply]
  by_cases h0 : k.val < 50
  · have e : k = ⟨(⟨k.val, h0⟩ : Fin 50).val, k.isLt⟩ := rfl
    rw [e, v6_word]; exact g.word _
  · by_cases h1 : k.val < 104
    · have e : k = ⟨(⟨k.val - 50, by omega⟩ : Fin 54).val + 50, by omega⟩ :=
        Fin.ext (by show k.val = k.val - 50 + 50; omega)
      rw [e, v6_pos]; exact g.pos _
    · have e : k = ⟨(⟨k.val - 104, by omega⟩ : Fin 4).val + 104, by omega⟩ :=
        Fin.ext (by show k.val = k.val - 104 + 104; omega)
      rw [e, v6_tok]; exact g.tok _

/-- The packed word a point sees for text column `j` of its example `b`. -/
theorem packed_word {c : Dev nD} (g : GivenAt m c) (t : Fin cfg0.N) (j : Fin 52) (b : Fin 16) :
    iblk m c 2 t (ix2 (textRow j b) (0 : Fin 1)) =
      IntOp.ori (BitVec.ofNat 32 (idAt (m ((c : Thread nD τ).loc main_arg2)) (exAt t b) j).val)
        (IntOp.shli ArithUnit.host (BitVec.ofNat 32 (typeAt (m ((c : Thread nD τ).loc main_arg3)) (exAt t b) j).val) 6#32) := by
  rw [blk2_apply, v15_apply, ← g.id, ← g.type]
  have := point_lt t
  have e1 : (⟨(packAt t (textRow j b)).val / 16 % 52, Nat.mod_lt _ (by decide)⟩ : Fin 52) = j :=
    Fin.ext (by show (t.val * 832 + (j.val * 16 + b.val)) / 16 % 52 = j.val; omega)
  have e2 : (⟨(packAt t (textRow j b)).val / 832 * 16 + (packAt t (textRow j b)).val % 16, by omega⟩ : Fin 1024) = exAt t b :=
    Fin.ext (by
      show (t.val * 832 + (j.val * 16 + b.val)) / 832 * 16 + (t.val * 832 + (j.val * 16 + b.val)) % 16 = t.val * 16 + b.val
      omega)
  rw [e1, e2]

/-- The text rows of a point. -/
theorem stored_text {c : Dev nD} (g : GivenAt m c) (t : Fin cfg0.N) (j : Fin 52) (b : Fin 16) (h : Fin 1024) :
    pointText m c t (ix3 j b h) = ((layerAt m c (exAt t b) ⟨j.val + 37, by omega⟩ h : ℝ) : EReal) := by
  unfold pointText layerAt layer
  rw [rawRow_text]
  refine textBlock_apply j b (fun h => ?_) h
  obtain ⟨ha, hs⟩ := packed (idAt (m ((c : Thread nD τ).loc main_arg2)) (exAt t b) j)
    (typeAt (m ((c : Thread nD τ).loc main_arg3)) (exAt t b) j)
  rw [lookup_apply (T := realTable m c t) (fun k h => (ld_whole _ _ _ _).trans (realTable_eq m g t k h)) (textRow j b)
    (idAt (m ((c : Thread nD τ).loc main_arg2)) (exAt t b) j) (typeAt (m ((c : Thread nD τ).loc main_arg3)) (exAt t b) j)
    ((congrArg (IntOp.andi · 63#32) ((ld_whole _ _ _ _).trans (packed_word m g t j b))).trans ha)
    ((congrArg (IntOp.shrsi ArithUnit.vector · 6#32) ((ld_whole _ _ _ _).trans (packed_word m g t j b))).trans hs) h]
  rw [EReal.coe_add, EReal.coe_add, ← realTable_eq m g, ← realTable_eq m g, ← realTable_eq m g]
  refine Eq.trans ?_ (table_sum m g t _ _ _ h)
  have e : posCol (textRow j b) = (⟨j.val + 2 + 50, by omega⟩ : Fin 108) :=
    Fin.ext (by show (j.val * 16 + b.val) / 16 + 52 = j.val + 2 + 50; omega)
  have e' : typeCol (typeAt (m ((c : Thread nD τ).loc main_arg3)) (exAt t b) j) =
      (⟨(typeAt (m ((c : Thread nD τ).loc main_arg3)) (exAt t b) j).val + 1 + 104, by omega⟩ : Fin 108) :=
    Fin.ext (by show _ + 105 = _ + 1 + 104; omega)
  rw [e, e']

/-- Everything a point stores. -/
theorem stored {c : Dev nD} (g : GivenAt m c) (t : Fin cfg0.N) (k : Fin 89) (b : Fin 16) (h : Fin 1024) :
    outsAt0 m c t (ix3 k b h) = ((layerAt m c (exAt t b) k h : ℝ) : EReal) := by
  obtain rfl | ⟨n, rfl⟩ | ⟨j, rfl⟩ := row_cases k
  · rw [outs_image]; exact stored_image m g t b h
  · rw [outs_vis]; exact stored_region m g t n b h
  · rw [outs_text]; exact stored_text m g t j b h

/-- The array the launch leaves: rows first, then examples. -/
theorem launch_array {c : Dev nD} (g : GivenAt m c) :
    (dats m 0 c).arrAt 6 cfg0.N =
      (fun i => ((layerAt m c (i 1) (i 0) (i 2) : ℝ) : EReal) : S89x1024x1024.Idx → EReal) :=
  array_eq m c _ fun t k b h => stored m g t k b h

end Cert.Proof

end
-- ==== Proof.Result.lean ====
module

public import proofs.«01_k».proof.Proof.Stored

/-!
# What the kernel returns

The step after the launch exchanges the first two axes of the launch's array, so that the result holds
the layer example by example.
-/

@[expose] public section

noncomputable section

set_option maxRecDepth 16384

namespace Cert.Proof

open Idealize.ShloMosaic Idealize.ShloMosaic.TcCoe Idealize.ShloMosaic.Tactic Idealize.SL.Sem Cert.KernelIdeal
  Cert.KernelIdeal.Gen

variable (m : (ℓ : Loc nD τ sig) → Buf (Elt Ideal) ℓ)

/-- The layer on the arguments of a device as an array. -/
def layerArray (c : Dev nD) : Buf (Elt Ideal) ((c : Thread nD τ).loc main_v17) :=
  (fun i => ((layerAt m c (i 0) (i 1) (i 2) : ℝ) : EReal) : S1024x89x1024.Idx → EReal)

/-- What the last step leaves in the result. -/
theorem tail_apply {c : Dev nD} (g : GivenAt m c) :
    Pipeline.afterTail₀ cfgs (dats m) 0 (V0 m) [hostOps1] c main_v17 = layerArray m c := by
  have e : Pipeline.withArrays cfg0.spec c (V0 m c) (fun w => (dats m 0 c).arrAt w cfg0.N) (Proc.devRef .tc main_v16) =
      (dats m 0 c).arrAt 6 cfg0.N := Pipeline.withArrays_arr cfg0.spec launch0.win.arr_inj c _ _ 6
  rw [launch_array m g] at e
  unfold Pipeline.afterTail₀
  show StableHlo.after hostOps1 (Pipeline.withArrays cfg0.spec c (V0 m c) fun w => (dats m 0 c).arrAt w cfg0.N) (Proc.devRef .tc main_v17) = _
  funext i
  idx_vars i
  after_reads_at
  rw [e]
  rfl

/-- Every run of the kernel ends with the layer in its result. -/
theorem kernel_run (ρ : Dev nD → PrngReg) (g : ∀ c, GivenAt m c) :
    θ_run defs (onTc (τ := τ) (main (F := Ideal))) ⟨m, fun _ => 0, ρ⟩ fun r => ∀ c : Dev nD,
      r.2.mem ((c.tc : Thread nD τ).loc main_v17) = layerArray m c :=
  (θ_run defs _ _).mono (fun r h c => ((h c).2 main_v17 (by decide +kernel)).trans (tail_apply m (g c))) (run_main m ρ)

end Cert.Proof

end
-- ==== Proof.HostNorm.lean ====
module

public import proofs.«01_k».proof.Proof.Given
public import proofs.«01_k».proof.Proof.Gen.ReferenceIdeal.Read

/-!
# The layer norm of the reference

The reference norms the rows of an array the same way each time.  Here the operations it uses are written
as one function of the array, for any number of rows, and read on rows of real numbers.
-/

@[expose] public section

noncomputable section

set_option maxRecDepth 16384

namespace Cert.Proof

open Idealize.ShloMosaic

/-- One number. -/
abbrev S0 : Shape := ⟨0, ![]⟩
/-- One number per row. -/
abbrev Sh2 (N : Nat) : Shape := ⟨2, ![1024, N]⟩
/-- One number per row, as a column. -/
abbrev Sh1 (N : Nat) : Shape := ⟨3, ![1024, N, 1]⟩
/-- The rows. -/
abbrev Sh3 (N : Nat) : Shape := ⟨3, ![1024, N, 1024]⟩
/-- One number per column. -/
abbrev Sv : Shape := ⟨1, ![1024]⟩
/-- One number per column, as a row. -/
abbrev Sv3 : Shape := ⟨3, ![1, 1, 1024]⟩

/-- What the operations need to know of the shapes. -/
structure Rows (N : Nat) : Prop where
  red : (Sh3 N).ReducesTo [2] (Sh2 N)
  pos : 0 < S0.numel
  col : (Sh2 N).BroadcastsInDim (Sh1 N) ![0, 1]
  fill : S0.BroadcastsInDim (Sh1 N) ![]
  spread : (Sh1 N).BroadcastsInDim (Sh3 N) ![0, 1, 2]
  row : Sv.BroadcastsInDim Sv3 ![2]
  rows : Sv3.BroadcastsInDim (Sh3 N) ![0, 1, 2]

variable {N : Nat} (R : Rows N)

/-- The mean of every row. -/
def hostMean (x : FVec Ideal (Sh3 N) .f32) : FVec Ideal (Sh1 N) .f32 :=
  Host.divf (broadcastInDim (Sh1 N) ![0, 1] R.col (Host.reduceAdd x (constant S0 .f32 0x00000000#32) R.red R.pos))
    (broadcastInDim (Sh1 N) ![] R.fill (constant S0 .f32 0x44800000#32))

/-- The row length less the correction, which is zero. -/
def hostCount : FVec Ideal S0 .f32 := subf (constant S0 .f32 0x44800000#32) (sitofp .f32 (constantI S0 32 0#32))

/-- The deviations from the mean. -/
def hostDev (x : FVec Ideal (Sh3 N) .f32) : FVec Ideal (Sh3 N) .f32 :=
  subf x (broadcastInDim (Sh3 N) ![0, 1, 2] R.spread (hostMean R x))

/-- The variance of every row. -/
def hostVar (x : FVec Ideal (Sh3 N) .f32) : FVec Ideal (Sh1 N) .f32 :=
  select (broadcastInDim (Sh1 N) ![] R.fill (cmpf .ogt hostCount (constant S0 .f32 0x00000000#32)))
    (Host.divf (broadcastInDim (Sh1 N) ![0, 1] R.col
        (Host.reduceAdd (mulf (hostDev R x) (hostDev R x)) (constant S0 .f32 0x00000000#32) R.red R.pos))
      (broadcastInDim (Sh1 N) ![] R.fill hostCount))
    (broadcastInDim (Sh1 N) ![] R.fill (id (constant S0 .f32 0x7FC00000#32)))

/-- The layer norm with gain `g` and bias `b`. -/
def hostNorm (x : FVec Ideal (Sh3 N) .f32) (g b : FVec Ideal Sv .f32) : FVec Ideal (Sh3 N) .f32 :=
  addf (mulf
      (Host.divf (hostDev R x)
        (broadcastInDim (Sh3 N) ![0, 1, 2] R.spread
          (Host.sqrt (addf (hostVar R x) (broadcastInDim (Sh1 N) ![] R.fill (constant S0 .f32 0x2B8CBCCC#32))))))
      (broadcastInDim (Sh3 N) ![0, 1, 2] R.rows (broadcastInDim Sv3 ![2] R.row g)))
    (broadcastInDim (Sh3 N) ![0, 1, 2] R.rows (broadcastInDim Sv3 ![2] R.row b))

/-- A column holds the number of the row. -/
theorem col_apply (hN : N ≠ 1) {α : Type} (v : (Sh2 N).Idx → α) (b : Fin 1024) (n : Fin N) :
    broadcastInDim (Sh1 N) ![0, 1] R.col v (ix3 b n 0) = v (ix2 b n) := by
  unfold broadcastInDim
  congr 1
  funext a
  match a with
  | ⟨0, _⟩ => rfl
  | ⟨1, _⟩ => exact dif_neg hN

/-- A column spread over the rows. -/
theorem spread_apply (hN : N ≠ 1) {α : Type} (v : (Sh1 N).Idx → α) (b : Fin 1024) (n : Fin N) (h : Fin 1024) :
    broadcastInDim (Sh3 N) ![0, 1, 2] R.spread v (ix3 b n h) = v (ix3 b n 0) := by
  unfold broadcastInDim
  congr 1
  funext a
  match a with
  | ⟨0, _⟩ => rfl
  | ⟨1, _⟩ => exact dif_neg hN
  | ⟨2, _⟩ => rfl

/-- One number per column, spread over the rows. -/
theorem rows_apply {α : Type} (v : Sv.Idx → α) (b : Fin 1024) (n : Fin N) (h : Fin 1024) :
    broadcastInDim (Sh3 N) ![0, 1, 2] R.rows (broadcastInDim Sv3 ![2] R.row v) (ix3 b n h) = v (ix1 h) := by
  pointwise

/-- The sum of a row. -/
theorem sum_apply (x : FVec Ideal (Sh3 N) .f32) (b : Fin 1024) (n : Fin N) :
    Host.reduceAdd x (constant S0 .f32 0x00000000#32) R.red R.pos (ix2 b n) = ∑ h, x (ix3 b n h) := by
  pointwise

/-- The mean of a row of real numbers. -/
theorem hostMean_apply (hN : N ≠ 1) {x : FVec Ideal (Sh3 N) .f32} {f : Row} {b : Fin 1024} {n : Fin N}
    (hx : ∀ h, x (ix3 b n h) = ((f h : ℝ) : EReal)) : hostMean R x (ix3 b n 0) = ((mean f : ℝ) : EReal) := by
  have e : Ideal.div (Host.reduceAdd x (constant S0 .f32 0x00000000#32) R.red R.pos (ix2 b n))
      (Ideal.ofBits .f32 0x44800000#32) = ((mean f : ℝ) : EReal) := by
    rw [sum_apply R]
    simp only [hx, coe_sum, word_len, div_len]
  rw [← col_apply R hN (Host.reduceAdd _ _ _ _) b n] at e
  exact e

/-- The deviation of a row of real numbers. -/
theorem hostDev_apply (hN : N ≠ 1) {x : FVec Ideal (Sh3 N) .f32} {f : Row} {b : Fin 1024} {n : Fin N}
    (hx : ∀ h, x (ix3 b n h) = ((f h : ℝ) : EReal)) (h : Fin 1024) :
    hostDev R x (ix3 b n h) = ((f h - mean f : ℝ) : EReal) := by
  show x (ix3 b n h) - broadcastInDim (Sh3 N) ![0, 1, 2] R.spread (hostMean R x) (ix3 b n h) = _
  rw [spread_apply R hN, hostMean_apply R hN hx, hx, EReal.coe_sub]

/-- The row length, as the programs compute it. -/
theorem hostCount_apply (i : S0.Idx) : hostCount i = ((1024 : ℝ) : EReal) := by
  show Ideal.ofBits .f32 0x44800000#32 - (((0#32 : BitVec 32).toInt : ℝ) : EReal) = _
  rw [word_len]
  simp

/-- The variance of a row of real numbers. -/
theorem hostVar_apply (hN : N ≠ 1) {x : FVec Ideal (Sh3 N) .f32} {f : Row} {b : Fin 1024} {n : Fin N}
    (hx : ∀ h, x (ix3 b n h) = ((f h : ℝ) : EReal)) : hostVar R x (ix3 b n 0) = ((var f : ℝ) : EReal) := by
  have e : Scalar.select (Ideal.cmp .ogt (hostCount (fun i => i.elim0)) (Ideal.ofBits .f32 0x00000000#32))
      (Ideal.div (Host.reduceAdd (mulf (hostDev R x) (hostDev R x)) (constant S0 .f32 0x00000000#32) R.red R.pos (ix2 b n))
        (hostCount (fun i => i.elim0))) (Ideal.ofBits .f32 0x7FC00000#32) = ((var f : ℝ) : EReal) := by
    have hs : ∀ h, mulf (hostDev R x) (hostDev R x) (ix3 b n h) = (((f h - mean f) * (f h - mean f) : ℝ) : EReal) := fun h => by
      show hostDev R x (ix3 b n h) * hostDev R x (ix3 b n h) = _
      rw [hostDev_apply R hN hx, EReal.coe_mul]
    have hc : Ideal.cmp .ogt ((1024 : ℝ) : EReal) ((0 : ℝ) : EReal) = 1#1 := by
      simp [Ideal.cmp]
    rw [sum_apply R, hostCount_apply, word_zero, hc]
    simp only [hs, coe_sum, div_len]
    rfl
  rw [← col_apply R hN (Host.reduceAdd _ _ _ _) b n] at e
  exact e

/-- The layer norm of a row of real numbers, with gain one and bias zero. -/
theorem hostNorm_apply (hN : N ≠ 1) {x : FVec Ideal (Sh3 N) .f32} {g v : FVec Ideal Sv .f32} {f : Row} {b : Fin 1024} {n : Fin N}
    (hg : ∀ i, g i = ((1 : ℝ) : EReal)) (hv : ∀ i, v i = ((0 : ℝ) : EReal))
    (hx : ∀ h, x (ix3 b n h) = ((f h : ℝ) : EReal)) (h : Fin 1024) :
    hostNorm R x g v (ix3 b n h) = ((norm f h : ℝ) : EReal) := by
  have e : Ideal.div (hostDev R x (ix3 b n h)) (Ideal.sqrt (hostVar R x (ix3 b n 0) + Ideal.ofBits .f32 0x2B8CBCCC#32)) * g (ix1 h)
      + v (ix1 h) = ((norm f h : ℝ) : EReal) := by
    rw [hostDev_apply R hN hx, hostVar_apply R hN hx, word_eps, ← EReal.coe_add, div_sqrt_eps (var_nonneg f), hg, hv,
      ← EReal.coe_mul, ← EReal.coe_add, norm_eq, mul_one, add_zero]
  rw [← rows_apply R g b n h, ← rows_apply R v b n h] at e
  show Ideal.div (hostDev R x (ix3 b n h)) (broadcastInDim (Sh3 N) ![0, 1, 2] R.spread
    (Host.sqrt (addf (hostVar R x) (broadcastInDim (Sh1 N) ![] R.fill (constant S0 .f32 0x2B8CBCCC#32)))) (ix3 b n h)) * _ + _ = _
  rw [spread_apply R hN]
  exact e

end Cert.Proof

end
-- ==== Proof.Take.lean ====
module

public import proofs.«01_k».proof.Proof.HostNorm
public import Idealize.ShloMosaic.Lib.ReduceAll
public import Idealize.ShloMosaic.Lib.WordCmp

/-!
# Looking rows up in a table

The reference looks rows up in three tables in the same way: an id below zero counts from the end, an id
outside the table gives a row of no meaning, and every other id gives the row of its number.  The
operations are written once for a table of any size, and read where all ids are inside the table.
-/

@[expose] public section

noncomputable section

set_option maxRecDepth 16384

namespace Cert.Proof

open Idealize.ShloMosaic

/-- A table of `V` rows. -/
abbrev Tbl (V : Nat) : Shape := ⟨2, ![V, 1024]⟩
/-- One id for every row of the result. -/
abbrev Sid : Shape := ⟨2, ![1024, 89]⟩
/-- The ids as a column. -/
abbrev Sid1 : Shape := ⟨3, ![1024, 89, 1]⟩
/-- The result. -/
abbrev Sout : Shape := ⟨3, ![1024, 89, 1024]⟩
/-- A list of one word. -/
abbrev Sw : Shape := ⟨1, ![1]⟩
/-- The same as a block. -/
abbrev Sw3 : Shape := ⟨3, ![1, 1, 1]⟩

/-- How rows are gathered: whole rows of the table, one for every id. -/
abbrev rowDims (V : Nat) (wf : GatherDims.WF (Tbl V) Sid1 Sout [2] [0] [] [0] [] 2 ![1, 1024]) :
    GatherDims (Tbl V) Sid1 Sout where
  offsetDims := [2]
  collapsedSliceDims := [0]
  operandBatchingDims := []
  startIndicesBatchingDims := []
  startIndexMap := [0]
  indexVectorDim := 2
  sliceSizes := ![1, 1024]
  wf := wf

/-- A gathered row is the row of the table whose number the id is. -/
theorem gather_row_at {α : Type} {V : Nat} (wf : GatherDims.WF (Tbl V) Sid1 Sout [2] [0] [] [0] [] 2 ![1, 1024])
    (x : (Tbl V).Idx → α) (idx : IVec Sid1 32) (b : Fin 1024) (k : Fin 89) (h : Fin 1024) (a : Fin V)
    (ha : (idx (ix3 b k 0)).toInt.toNat = a.val) :
    Host.gather (rowDims V wf) x idx (ix3 b k h) = x (ix2 a h) := by
  have hs : (rowDims V wf).siIdx (ix3 b k h) ⟨0, Nat.one_pos⟩ = ix3 b k 0 := by
    funext c
    match c with
    | ⟨0, _⟩ => rfl
    | ⟨1, _⟩ => rfl
    | ⟨2, _⟩ => rfl
  have h0 : (rowDims V wf).start (ix3 b k h) idx 0 = a.val := by
    have e : (rowDims V wf).start (ix3 b k h) idx 0
        = min (idx ((rowDims V wf).siIdx (ix3 b k h) ⟨0, Nat.one_pos⟩)).toInt.toNat (V - 1) := rfl
    rw [e, hs, ha]
    have := a.isLt
    omega
  refine congrArg x (funext fun c => Fin.ext ?_)
  match c with
  | ⟨0, _⟩ =>
    show (rowDims V wf).start (ix3 b k h) idx 0 + (rowDims V wf).batchCoord (ix3 b k h) 0
      + (rowDims V wf).offCoord (ix3 b k h) 0 = a.val
    rw [h0]; rfl
  | ⟨1, _⟩ =>
    show (rowDims V wf).start (ix3 b k h) idx 1 + (rowDims V wf).batchCoord (ix3 b k h) 1
      + (rowDims V wf).offCoord (ix3 b k h) 1 = h.val
    have e1 : (rowDims V wf).start (ix3 b k h) idx 1 = 0 := rfl
    have e2 : (rowDims V wf).batchCoord (ix3 b k h) 1 = 0 := rfl
    have e3 : (rowDims V wf).offCoord (ix3 b k h) 1 = h.val := rfl
    rw [e1, e2, e3]; omega

/-- What the operations need to know of the shapes. -/
structure Looks : Prop where
  fill : S0.BroadcastsInDim Sid ![]
  col : Sid.BroadcastsInDim Sid1 ![0, 1]
  fill1 : S0.BroadcastsInDim Sid1 ![]
  word : Sw.BroadcastsInDim Sw3 ![2]
  words : Sw3.BroadcastsInDim Sid1 ![0, 1, 2]
  red : Sid1.ReducesTo [2] Sid
  pos : 0 < S0.numel
  spread : Sid.BroadcastsInDim Sout ![0, 1]
  fill3 : S0.BroadcastsInDim Sout ![]

variable (K : Looks)

/-- The ids, those below zero counted from the end, as a column. -/
def hostIds (size : BitVec 32) (ids : IVec Sid 32) : IVec Sid1 32 :=
  broadcastInDim Sid1 ![0, 1] K.col (select (cmpi .slt ids (broadcastInDim Sid ![] K.fill (constantI S0 32 0#32)))
    (addi ids (broadcastInDim Sid ![] K.fill (constantI S0 32 size))) ids)

/-- Which ids are inside the table. -/
def hostInside (size top : BitVec 32) (ids : IVec Sid 32) : IVec Sid1 1 :=
  andi (cmpi .sge (hostIds K size ids) (broadcastInDim Sid1 ![] K.fill1 (constantI S0 32 0#32)))
    (cmpi .sle (hostIds K size ids)
      (broadcastInDim Sid1 ![0, 1, 2] K.words (broadcastInDim Sw3 ![2] K.word (constantI Sw 32 top))))

/-- The rows looked up. -/
def hostTake {V : Nat} (d : GatherDims (Tbl V) Sid1 Sout) (size top : BitVec 32) (x : FVec Ideal (Tbl V) .f32)
    (ids : IVec Sid 32) : FVec Ideal Sout .f32 :=
  select (broadcastInDim Sout ![0, 1] K.spread
      (Host.reduce IntOp.andi (hostInside K size top ids) (constantI S0 1 1#1) K.red K.pos))
    (Host.gather d x (hostIds K size ids))
    (broadcastInDim Sout ![] K.fill3 (constant S0 .f32 0x7FC00000#32))

/-- An id that is a small number is kept. -/
theorem hostIds_apply (size : BitVec 32) (ids : IVec Sid 32) (b : Fin 1024) (k : Fin 89) (a : Nat) (hlt : a < 64)
    (ha : ids (ix2 b k) = BitVec.ofNat 32 a) : hostIds K size ids (ix3 b k 0) = BitVec.ofNat 32 a := by
  have e : hostIds K size ids (ix3 b k 0)
      = Scalar.select (IntOp.cmpi .slt (ids (ix2 b k)) 0#32) (IntOp.addi (ids (ix2 b k)) size) (ids (ix2 b k)) := by
    unfold hostIds
    pointwise
  rw [e, ha]
  have : IntOp.cmpi .slt (BitVec.ofNat 32 a) 0#32 = 0#1 := by
    interval_cases a <;> rfl
  rw [this]
  rfl

/-- A small number between zero and another is so as a word. -/
theorem inside_words (a t : Nat) (hat : a ≤ t) (ht : t < 64) :
    IntOp.andi (IntOp.cmpi .sge (BitVec.ofNat 32 a) 0#32) (IntOp.cmpi .sle (BitVec.ofNat 32 a) (BitVec.ofNat 32 t))
      = 1#1 := by
  have h : ∀ t : Fin 64, ∀ a : Fin 64, a ≤ t → IntOp.andi (IntOp.cmpi .sge (BitVec.ofNat 32 a.val) 0#32)
      (IntOp.cmpi .sle (BitVec.ofNat 32 a.val) (BitVec.ofNat 32 t.val)) = 1#1 := by decide
  exact h ⟨t, ht⟩ ⟨a, by omega⟩ hat

/-- Every id is inside the table. -/
theorem hostInside_apply (V : Nat) (hV : V ≤ 64) (size : BitVec 32) (ids : IVec Sid 32) (row : Fin 1024 → Fin 89 → Fin V)
    (hrow : ∀ b k, ids (ix2 b k) = BitVec.ofNat 32 (row b k).val) (i : Sid1.Idx) :
    hostInside K size (BitVec.ofNat 32 (V - 1)) ids i = 1#1 := by
  obtain ⟨b, k, rfl⟩ : ∃ (b : Fin 1024) (k : Fin 89), i = ix3 b k 0 := ⟨i 0, i 1, by
    funext c
    match c with
    | ⟨0, _⟩ => rfl
    | ⟨1, _⟩ => rfl
    | ⟨2, _⟩ => exact Subsingleton.elim (α := Fin 1) _ _⟩
  have hlt := (row b k).isLt
  have hid := hostIds_apply K size ids b k (row b k).val (by omega) (hrow b k)
  have e : hostInside K size (BitVec.ofNat 32 (V - 1)) ids (ix3 b k 0)
      = IntOp.andi (IntOp.cmpi .sge (hostIds K size ids (ix3 b k 0)) 0#32)
        (IntOp.cmpi .sle (hostIds K size ids (ix3 b k 0)) (BitVec.ofNat 32 (V - 1))) := by
    unfold hostInside
    generalize hostIds K size ids = y
    pointwise
  rw [e, hid]
  exact inside_words (row b k).val (V - 1) (by omega) (by omega)

/-- Looking up ids that are all inside the table gives the rows of their numbers. -/
theorem hostTake_apply (V : Nat) (hV : V ≤ 64) (wf : GatherDims.WF (Tbl V) Sid1 Sout [2] [0] [] [0] [] 2 ![1, 1024])
    (size : BitVec 32) (x : FVec Ideal (Tbl V) .f32) (ids : IVec Sid 32) (row : Fin 1024 → Fin 89 → Fin V)
    (hrow : ∀ b k, ids (ix2 b k) = BitVec.ofNat 32 (row b k).val) (b : Fin 1024) (k : Fin 89) (h : Fin 1024) :
    hostTake K (rowDims V wf) size (BitVec.ofNat 32 (V - 1)) x ids (ix3 b k h) = x (ix2 (row b k) h) := by
  have hin := Host.reduce_andi_one (hostInside K size (BitVec.ofNat 32 (V - 1)) ids) (constantI S0 1 1#1) K.red K.pos
    (ix2 b k) rfl (hostInside_apply K V hV size ids row hrow)
  have hlt := (row b k).isLt
  have hid := hostIds_apply K size ids b k (row b k).val (by omega) (hrow b k)
  have hg := gather_row_at wf x (hostIds K size ids) b k h (row b k) (by
    rw [hid]
    generalize (row b k).val = a at *
    have : a < 64 := by omega
    clear hid hlt
    interval_cases a <;> rfl)
  unfold hostTake
  generalize Host.reduce IntOp.andi _ _ K.red K.pos = y at hin ⊢
  pointwise
  rw [hin]
  exact hg

end Cert.Proof

end
-- ==== Proof.Ids.lean ====
module

public import proofs.«01_k».proof.Proof.Take
public import proofs.«01_k».proof.Proof.Columns
public import Idealize.ShloMosaic.Lib.Pointwise

/-!
# The ids of the reference

For every row of the result the reference makes three ids: a word, a position and a type.  Row 0 is the
image, rows 1 to 36 are its regions, and the rows from 37 on are the text.
-/

@[expose] public section

noncomputable section

set_option maxRecDepth 16384

namespace Cert.Proof

open Idealize.ShloMosaic Cert.ReferenceIdeal.Read

/-- The word of row `k`. -/
def wordOf (x2 : Ids) (b : Fin 1024) (k : Fin 89) : Fin 50 :=
  if k.val = 0 then 47 else if k.val < 37 then 49 else idAt x2 b ⟨k.val - 37, by omega⟩

/-- The position of row `k`. -/
def posOf (k : Fin 89) : Fin 54 :=
  if k.val = 0 then 0 else if k.val < 37 then 1 else ⟨k.val - 37 + 2, by omega⟩

/-- The type of row `k`. -/
def kindOf (x3 : Ids) (b : Fin 1024) (k : Fin 89) : Fin 4 :=
  if k.val < 37 then 0 else ⟨(typeAt x3 b ⟨k.val - 37, by omega⟩).val + 1, by omega⟩

variable {x0 : Feats} {x1 : Boxes} {x2 x3 : Ids} {x4 : Tab 50} {x5 : Tab 54} {x6 : Tab 4} {x7 : Wt 2048} {x9 : Wt 5}
  {x8 x10 x11 x12 x13 x14 x15 x16 x17 x18 : FVec Ideal Sv .f32}

/-- The words of the text: the first column is overwritten. -/
theorem v2_at (x2 : Ids) (b : Fin 1024) (j : Fin 52) :
    val_main_v2 (F := Ideal) x2 (ix2 b j) = if j = 0 then 48#32 else x2 (ix2 b j) :=
  first_column _ rfl rfl x2 _ _ 48#32 (fun i => by pointwise [val_main_v0, val_main_c])
    (fun i => by pointwise [val_main_v1, val_main_c_0]) b j

/-- The words of the image and its regions: the first column is overwritten. -/
theorem v6_at (b : Fin 1024) (j : Fin 37) :
    val_main_v6 (F := Ideal) (ix2 b j) = if j = 0 then 47#32 else 49#32 := by
  have e := first_column Cert.ReferenceIdeal.scatter_S1024x37_S1_S1024_0_1_1_0 rfl rfl (val_main_v3 (F := Ideal))
    (val_main_v4 (F := Ideal)) (val_main_v5 (F := Ideal)) 47#32 (fun i => by pointwise [val_main_v4, val_main_c_2])
    (fun i => by pointwise [val_main_v5, val_main_c_3]) b j
  have e3 : val_main_v3 (F := Ideal) (ix2 b j) = 49#32 := by pointwise [val_main_v3, val_main_c_1]
  rw [e3] at e
  exact e

/-- The words. -/
theorem v7_at (g : Given x0 x1 x2 x3 x4 x5 x6 x7 x8 x9 x10 x11 x12 x13 x14 x15 x16 x17 x18) (b : Fin 1024) (k : Fin 89) :
    val_main_v7 (F := Ideal) x2 (ix2 b k) = BitVec.ofNat 32 (wordOf x2 b k).val := by
  have e : val_main_v7 (F := Ideal) x2 (ix2 b k) = if h : k.val < 37 then val_main_v6 (F := Ideal) (ix2 b ⟨k.val, h⟩)
      else val_main_v2 (F := Ideal) x2 (ix2 b ⟨k.val - 37, by omega⟩) := by
    unfold val_main_v7
    generalize val_main_v6 (F := Ideal) = u
    generalize val_main_v2 (F := Ideal) x2 = v
    pointwise
  rw [e, wordOf]
  by_cases h0 : k.val = 0
  · rw [dif_pos (by omega), v6_at, if_pos h0, if_pos (Fin.ext h0)]; rfl
  · rw [if_neg h0]
    by_cases h : k.val < 37
    · rw [dif_pos h, v6_at, if_pos h, if_neg (fun q => h0 (congrArg Fin.val q))]; rfl
    · rw [dif_neg h, v2_at, if_neg h]
      exact g.id b _

/-- The positions. -/
theorem v20_at (b : Fin 1024) (k : Fin 89) :
    val_main_v20 (F := Ideal) (ix2 b k) = BitVec.ofNat 32 (posOf k).val := by
  have e : val_main_v20 (F := Ideal) (ix2 b k) = if k.val < 37 then if k.val < 1 then 0#32 else 1#32
      else IntOp.addi (BitVec.ofNat 32 (k.val - 37)) 2#32 := by
    pointwise [val_main_v20, val_main_v19, val_main_v18, val_main_v14, val_main_v17, val_main_v12, val_main_v13,
      val_main_v15, val_main_v16, val_main_c_6, val_main_c_7, val_main_c_8]
    rfl
  rw [e]
  have h : ∀ k : Fin 89, (if k.val < 37 then if k.val < 1 then 0#32 else 1#32
      else IntOp.addi (BitVec.ofNat 32 (k.val - 37)) 2#32) = BitVec.ofNat 32 (posOf k).val := by decide
  exact h k

/-- The types. -/
theorem v11_at (g : Given x0 x1 x2 x3 x4 x5 x6 x7 x8 x9 x10 x11 x12 x13 x14 x15 x16 x17 x18) (b : Fin 1024) (k : Fin 89) :
    val_main_v11 (F := Ideal) x3 (ix2 b k) = BitVec.ofNat 32 (kindOf x3 b k).val := by
  have e : val_main_v11 (F := Ideal) x3 (ix2 b k) = if h : k.val < 37 then 0#32
      else IntOp.addi (x3 (ix2 b ⟨k.val - 37, by omega⟩)) 1#32 := by
    pointwise [val_main_v11, val_main_v8, val_main_v10, val_main_v9, val_main_c_4, val_main_c_5]
  rw [e, kindOf]
  by_cases h : k.val < 37
  · rw [dif_pos h, if_pos h]; rfl
  · rw [dif_neg h, if_neg h, g.type b]
    have q : ∀ t : Fin 3, IntOp.addi (BitVec.ofNat 32 t.val) 1#32 = BitVec.ofNat 32 (t.val + 1) := by decide
    exact q _

end Cert.Proof

end
-- ==== Proof.AddRows.lean ====
module

public import proofs.«01_k».proof.Proof.HostNorm
public import Idealize.ShloMosaic.Lib.Routing.OpsPair

/-!
# Adding rows into the middle of an array

The reference adds 36 rows to the rows 1 to 36 of an array of 89.
-/

@[expose] public section

noncomputable section

set_option maxRecDepth 16384

namespace Cert.Proof

open Idealize.ShloMosaic

section
variable {α β : Type} (f : α → α → α) (p : β → Prop) [DecidablePred p] (v : β → α)

/-- Folding over a list of which no entry counts changes nothing. -/
theorem fold_none (l : List β) (x : α) (hl : ∀ n ∈ l, ¬ p n) :
    l.foldl (fun a n => if p n then f a (v n) else a) x = x := by
  induction l with
  | nil => rfl
  | cons m l ih =>
    rw [List.foldl_cons, if_neg (hl m List.mem_cons_self)]
    exact ih fun n hn => hl n (List.mem_cons_of_mem m hn)

/-- Folding over a list of which one entry counts takes that entry's value in once. -/
theorem fold_one (l : List β) (hl : l.Nodup) (x : α) (n0 : β) (hm : n0 ∈ l) (hp : ∀ n, p n ↔ n = n0) :
    l.foldl (fun a n => if p n then f a (v n) else a) x = f x (v n0) := by
  induction l with
  | nil => exact absurd hm List.not_mem_nil
  | cons m l ih =>
    rw [List.foldl_cons]
    by_cases e : m = n0
    · subst e
      rw [if_pos ((hp m).2 rfl)]
      refine fold_none f p v l _ fun n hn hpn => ?_
      rw [(hp n).1 hpn] at hn
      exact (List.nodup_cons.1 hl).1 hn
    · rw [if_neg fun q => e ((hp m).1 q)]
      refine ih (List.nodup_cons.1 hl).2 ?_
      rcases List.mem_cons.1 hm with q | q
      · exact absurd q.symm e
      · exact q

end

/-- How the rows are added: whole rows, from the row whose number the one word is. -/
abbrev addDims (wf : ScatterDims.WF (Sh3 89) ⟨1, ![1]⟩ (Sh3 36) [0, 1, 2] [] [1] 0) :
    ScatterDims (Sh3 89) ⟨1, ![1]⟩ (Sh3 36) where
  updateWindowDims := [0, 1, 2]
  insertedWindowDims := []
  scatterDimsToOperandDims := [1]
  indexVectorDim := 0
  wf := wf

variable {α : Type} (wf : ScatterDims.WF (Sh3 89) ⟨1, ![1]⟩ (Sh3 36) [0, 1, 2] [] [1] 0)
  (f : α → α → α) (x : (Sh3 89).Idx → α) (idx : IVec ⟨1, ![1]⟩ 32) (hidx : ∀ i, idx i = 1#32) (upd : (Sh3 36).Idx → α)

include hidx in
/-- Where an entry that is added lands: one row further down. -/
theorem lands (u : (Sh3 36).Idx) (b : Fin 1024) (k : Fin 89) (h : Fin 1024) :
    (addDims wf).resultIdx? u idx = some (ix3 b k h) ↔ (u 0).val = b.val ∧ (u 1).val + 1 = k.val ∧ (u 2).val = h.val := by
  rw [Routing.resultIdx?_eq_some]
  have s0 : (addDims wf).start u idx 0 = 0 := rfl
  have s1 : (addDims wf).start u idx 1 = 1 := by
    have e : (addDims wf).start u idx 1 = (idx ((addDims wf).siIdx u ⟨0, Nat.one_pos⟩)).toInt := rfl
    rw [e, hidx]; rfl
  have s2 : (addDims wf).start u idx 2 = 0 := rfl
  have w0 : (addDims wf).window u 0 = (u 0).val := rfl
  have w1 : (addDims wf).window u 1 = (u 1).val := rfl
  have w2 : (addDims wf).window u 2 = (u 2).val := rfl
  constructor
  · intro q
    have q0 := q 0
    have q1 := q 1
    have q2 := q 2
    rw [s0, w0] at q0
    rw [s1, w1] at q1
    rw [s2, w2] at q2
    change _ = ((b.val : Nat) : Int) at q0
    change _ = ((k.val : Nat) : Int) at q1
    change _ = ((h.val : Nat) : Int) at q2
    omega
  · rintro ⟨q0, q1, q2⟩ a
    match a with
    | ⟨0, _⟩ => show (addDims wf).start u idx 0 + ((addDims wf).window u 0 : Int) = ((b.val : Nat) : Int); rw [s0, w0]; omega
    | ⟨1, _⟩ => show (addDims wf).start u idx 1 + ((addDims wf).window u 1 : Int) = ((k.val : Nat) : Int); rw [s1, w1]; omega
    | ⟨2, _⟩ => show (addDims wf).start u idx 2 + ((addDims wf).window u 2 : Int) = ((h.val : Nat) : Int); rw [s2, w2]; omega

include hidx in
/-- A row that is added to. -/
theorem add_rows_hit (b : Fin 1024) (n : Fin 36) (h : Fin 1024) :
    Host.scatter (addDims wf) f x idx upd (ix3 b ⟨n.val + 1, by omega⟩ h)
      = f (x (ix3 b ⟨n.val + 1, by omega⟩ h)) (upd (ix3 b n h)) := by
  rw [Routing.scatter_at]
  have key := fold_one f (fun m : Fin (Sh3 36).numel => (addDims wf).resultIdx? ((Sh3 36).rowMajor.symm m) idx
      = some (ix3 b ⟨n.val + 1, by omega⟩ h)) (fun m => upd ((Sh3 36).rowMajor.symm m)) (List.finRange (Sh3 36).numel)
    (List.nodup_finRange _) (x (ix3 b ⟨n.val + 1, by omega⟩ h)) ((Sh3 36).rowMajor (ix3 b n h)) (List.mem_finRange _)
    (fun m => by
      rw [lands wf idx hidx]
      constructor
      · rintro ⟨q0, q1, q2⟩
        rw [← Equiv.symm_apply_eq]
        funext a
        match a with
        | ⟨0, _⟩ => exact Fin.ext q0
        | ⟨1, _⟩ => exact Fin.ext (Nat.succ.inj q1)
        | ⟨2, _⟩ => exact Fin.ext q2
      · rintro rfl
        rw [Equiv.symm_apply_apply]
        exact ⟨rfl, rfl, rfl⟩)
  rw [Equiv.symm_apply_apply] at key
  exact key

include hidx in
/-- A row that nothing is added to. -/
theorem add_rows_miss (b : Fin 1024) (k : Fin 89) (h : Fin 1024) (hk : k.val = 0 ∨ 37 ≤ k.val) :
    Host.scatter (addDims wf) f x idx upd (ix3 b k h) = x (ix3 b k h) := by
  rw [Routing.scatter_at]
  refine fold_none f _ _ _ _ fun m _ q => ?_
  have q1 := ((lands wf idx hidx _ b k h).1 q).2.1
  have : ((Sh3 36).rowMajor.symm m 1).val < 36 := ((Sh3 36).rowMajor.symm m 1).isLt
  omega

end Cert.Proof

end
-- ==== Proof.Layer.lean ====
module

public import proofs.«01_k».proof.Proof.Ids
public import proofs.«01_k».proof.Proof.AddRows

/-!
# The reference is the layer

What the reference computes, read from its inputs on: the looked up rows, the projections and their
norms, the sum, and the last norm.
-/

@[expose] public section

noncomputable section

set_option maxRecDepth 16384

namespace Cert.Proof

open Idealize.ShloMosaic Cert.ReferenceIdeal Cert.ReferenceIdeal.Gen Cert.ReferenceIdeal.Read

variable {x0 : Feats} {x1 : Boxes} {x2 x3 : Ids} {x4 : Tab 50} {x5 : Tab 54} {x6 : Tab 4} {x7 : Wt 2048} {x9 : Wt 5}
  {x8 x10 x11 x12 x13 x14 x15 x16 x17 x18 : FVec Ideal Sv .f32}

/-- The shapes of the lookups. -/
theorem looks : Looks where
  fill := Facts₀.bcast_S_S1024x89
  col := Facts₀.bcast_S1024x89_S1024x89x1_0_1
  fill1 := Facts₀.bcast_S_S1024x89x1
  word := Facts₀.bcast_S1_S1x1x1_2
  words := Facts₀.bcast_S1x1x1_S1024x89x1_0_1_2
  red := Facts₀.reducesTo_S1024x89x1_S1024x89_d2
  pos := Facts₀.h_S_
  spread := Facts₀.bcast_S1024x89_S1024x89x1024_0_1
  fill3 := Facts₀.bcast_S_S1024x89x1024

/-- The shapes of the norms of the regions. -/
theorem rows36 : Rows 36 where
  red := Facts₀.reducesTo_S1024x36x1024_S1024x36_d2
  pos := Facts₀.h_S_
  col := Facts₀.bcast_S1024x36_S1024x36x1_0_1
  fill := Facts₀.bcast_S_S1024x36x1
  spread := Facts₀.bcast_S1024x36x1_S1024x36x1024_0_1_2
  row := Facts₀.bcast_S1024_S1x1x1024_2
  rows := Facts₀.bcast_S1x1x1024_S1024x36x1024_0_1_2

/-- The shapes of the last norm. -/
theorem rows89 : Rows 89 where
  red := Facts₀.reducesTo_S1024x89x1024_S1024x89_d2
  pos := Facts₀.h_S_
  col := Facts₀.bcast_S1024x89_S1024x89x1_0_1
  fill := Facts₀.bcast_S_S1024x89x1
  spread := Facts₀.bcast_S1024x89x1_S1024x89x1024_0_1_2
  row := Facts₀.bcast_S1024_S1x1x1024_2
  rows := Facts₀.bcast_S1x1x1024_S1024x89x1024_0_1_2

variable (g : Given x0 x1 x2 x3 x4 x5 x6 x7 x8 x9 x10 x11 x12 x13 x14 x15 x16 x17 x18)
include g

/-- The projected features. -/
theorem v30_at (b : Fin 1024) (n : Fin 36) (h : Fin 1024) :
    val_main_v30 (F := Ideal) x0 x7 x8 (ix3 b n h) = ((featRow x0 x7 b n h : ℝ) : EReal) := by
  pointwise [val_main_v30, val_main_v27, val_main_v26, val_main_v29, val_main_v28]
  simp only [Nat.add_comm 1]
  rw [g.imgB, g.feat, ← EReal.coe_add, add_zero]

/-- The projected boxes. -/
theorem v53_at (b : Fin 1024) (n : Fin 36) (h : Fin 1024) :
    val_main_v53 (F := Ideal) x1 x9 x10 (ix3 b n h) = ((boxRow x1 x9 b n h : ℝ) : EReal) := by
  pointwise [val_main_v53, val_main_v50, val_main_v49, val_main_v52, val_main_v51]
  simp only [Nat.add_comm 1]
  rw [g.locB, g.box, ← EReal.coe_add, add_zero]

/-- The normed features. -/
theorem v48_at (b : Fin 1024) (n : Fin 36) (h : Fin 1024) :
    val_main_v48 (F := Ideal) x0 x7 x8 x11 x12 (ix3 b n h) = ((norm (featRow x0 x7 b n) h : ℝ) : EReal) := by
  have e : val_main_v48 (F := Ideal) x0 x7 x8 x11 x12
      = hostNorm rows36 (val_main_v30 (F := Ideal) x0 x7 x8) x11 x12 := rfl
  rw [e]
  exact hostNorm_apply rows36 (by decide) g.g11 g.b12 (fun h => v30_at g b n h) h

/-- The normed boxes. -/
theorem v71_at (b : Fin 1024) (n : Fin 36) (h : Fin 1024) :
    val_main_v71 (F := Ideal) x1 x9 x10 x13 x14 (ix3 b n h) = ((norm (boxRow x1 x9 b n) h : ℝ) : EReal) := by
  have e : val_main_v71 (F := Ideal) x1 x9 x10 x13 x14
      = hostNorm rows36 (val_main_v53 (F := Ideal) x1 x9 x10) x13 x14 := rfl
  rw [e]
  exact hostNorm_apply rows36 (by decide) g.g13 g.b14 (fun h => v53_at g b n h) h

/-- The normed sum of both. -/
theorem v90_at (b : Fin 1024) (n : Fin 36) (h : Fin 1024) :
    val_main_v90 (F := Ideal) x0 x1 x7 x8 x9 x10 x11 x12 x13 x14 x15 x16 (ix3 b n h)
      = ((regionRow x0 x1 x7 x9 b n h : ℝ) : EReal) := by
  have e : val_main_v90 (F := Ideal) x0 x1 x7 x8 x9 x10 x11 x12 x13 x14 x15 x16
      = hostNorm rows36 (val_main_v72 (F := Ideal) x0 x1 x7 x8 x9 x10 x11 x12 x13 x14) x15 x16 := rfl
  rw [e]
  refine hostNorm_apply rows36 (by decide) g.g15 g.b16 (fun h => ?_) h
  rw [val_main_v72_apply, v48_at g, v71_at g]
  exact (EReal.coe_add _ _).symm

/-- The sum of the three looked up rows. -/
theorem v25_at (b : Fin 1024) (k : Fin 89) (h : Fin 1024) :
    val_main_v25 (F := Ideal) x2 x3 x4 x5 x6 (ix3 b k h)
      = ((tokenRow x4 x5 x6 (wordOf x2 b k) (posOf k) (kindOf x3 b k) h : ℝ) : EReal) := by
  have e21 : val_main_v21 (F := Ideal) x2 x4
      = hostTake looks (rowDims 50 Facts₀.gather_S50x1024_S1024x89x1_S1024x89x1024_2_0_n_n_0_2_11024_wf) 50#32 49#32 x4
        (val_main_v7 (F := Ideal) x2) := rfl
  have e22 : val_main_v22 (F := Ideal) x5
      = hostTake looks (rowDims 54 Facts₀.gather_S54x1024_S1024x89x1_S1024x89x1024_2_0_n_n_0_2_11024_wf) 54#32 53#32 x5
        (val_main_v20 (F := Ideal)) := rfl
  have e23 : val_main_v23 (F := Ideal) x3 x6
      = hostTake looks (rowDims 4 Facts₀.gather_S4x1024_S1024x89x1_S1024x89x1024_2_0_n_n_0_2_11024_wf) 4#32 3#32 x6
        (val_main_v11 (F := Ideal) x3) := rfl
  rw [val_main_v25_apply, val_main_v24_apply, e21, e22, e23]
  rw [hostTake_apply looks 50 (by decide) _ 50#32 x4 _ (wordOf x2) (v7_at g),
    hostTake_apply looks 54 (by decide) _ 54#32 x5 _ (fun _ => posOf) v20_at,
    hostTake_apply looks 4 (by decide) _ 4#32 x6 _ (kindOf x3) (v11_at g)]
  exact g.token _ _ _ h

/-- What is normed at the end. -/
theorem v92_at (b : Fin 1024) (k : Fin 89) (h : Fin 1024) :
    val_main_v92 (F := Ideal) x0 x1 x2 x3 x4 x5 x6 x7 x8 x9 x10 x11 x12 x13 x14 x15 x16 (ix3 b k h)
      = ((rawRow x0 x1 x2 x3 x4 x5 x6 x7 x9 b k h : ℝ) : EReal) := by
  have hidx : ∀ i, val_main_v91 (F := Ideal) i = 1#32 := fun i => by pointwise [val_main_v91, val_main_c_20]
  have e : val_main_v92 (F := Ideal) x0 x1 x2 x3 x4 x5 x6 x7 x8 x9 x10 x11 x12 x13 x14 x15 x16
      = Host.scatter (addDims Facts₀.scatter_S1024x89x1024_S1_S1024x36x1024_012_n_1_0_wf) (FloatOps.addf (F := Ideal) (φ := .f32))
        (val_main_v25 (F := Ideal) x2 x3 x4 x5 x6) (val_main_v91 (F := Ideal))
        (val_main_v90 (F := Ideal) x0 x1 x7 x8 x9 x10 x11 x12 x13 x14 x15 x16) := rfl
  rw [e]
  rcases row_cases k with hk | ⟨n, hk⟩ | ⟨j, hk⟩
  · rw [hk, add_rows_miss _ _ _ _ hidx _ _ _ _ (Or.inl rfl), v25_at g, rawRow_image]
    rfl
  · rw [hk, add_rows_hit _ _ _ _ hidx, v25_at g, v90_at g, rawRow_region]
    have hw : wordOf x2 b ⟨n.val + 1, by omega⟩ = 49 := by
      unfold wordOf; rw [if_neg (Nat.succ_ne_zero _), if_pos (by show n.val + 1 < 37; omega)]
    have hp : posOf ⟨n.val + 1, by omega⟩ = 1 := by
      unfold posOf; rw [if_neg (Nat.succ_ne_zero _), if_pos (by show n.val + 1 < 37; omega)]
    have ht : kindOf x3 b ⟨n.val + 1, by omega⟩ = 0 := by
      unfold kindOf; rw [if_pos (by show n.val + 1 < 37; omega)]
    rw [hw, hp, ht]
    exact (EReal.coe_add _ _).symm
  · rw [hk, add_rows_miss _ _ _ _ hidx _ _ _ _ (Or.inr (by simp)), v25_at g, rawRow_text]
    have hw : wordOf x2 b ⟨j.val + 37, by omega⟩ = idAt x2 b j := by
      unfold wordOf; rw [if_neg (by simp), if_neg (by simp)]; simp
    have hp : posOf ⟨j.val + 37, by omega⟩ = ⟨j.val + 2, by omega⟩ := by
      unfold posOf; rw [if_neg (by simp), if_neg (by simp)]; simp
    have ht : kindOf x3 b ⟨j.val + 37, by omega⟩ = ⟨(typeAt x3 b j).val + 1, by omega⟩ := by
      unfold kindOf; rw [if_neg (by simp)]; simp
    rw [hw, hp, ht]

/-- The reference computes the layer. -/
theorem v110_at (b : Fin 1024) (k : Fin 89) (h : Fin 1024) :
    val_main_v110 (F := Ideal) x0 x1 x2 x3 x4 x5 x6 x7 x8 x9 x10 x11 x12 x13 x14 x15 x16 x17 x18 (ix3 b k h)
      = ((layer x0 x1 x2 x3 x4 x5 x6 x7 x9 b k h : ℝ) : EReal) := by
  have e : val_main_v110 (F := Ideal) x0 x1 x2 x3 x4 x5 x6 x7 x8 x9 x10 x11 x12 x13 x14 x15 x16 x17 x18
      = hostNorm rows89 (val_main_v92 (F := Ideal) x0 x1 x2 x3 x4 x5 x6 x7 x8 x9 x10 x11 x12 x13 x14 x15 x16) x17 x18 := rfl
  rw [e]
  exact hostNorm_apply rows89 (by decide) g.g17 g.b18 (fun h => v92_at g b k h) h

/-- The reference's whole result. -/
theorem v110_eq :
    val_main_v110 (F := Ideal) x0 x1 x2 x3 x4 x5 x6 x7 x8 x9 x10 x11 x12 x13 x14 x15 x16 x17 x18
      = fun i : S1024x89x1024.Idx => ((layer x0 x1 x2 x3 x4 x5 x6 x7 x9 (i 0) (i 1) (i 2) : ℝ) : EReal) := by
  funext i
  have e : i = ix3 (i 0) (i 1) (i 2) := by
    funext a
    match a with
    | ⟨0, _⟩ => rfl
    | ⟨1, _⟩ => rfl
    | ⟨2, _⟩ => rfl
  exact (congrArg _ e).trans (v110_at g (i 0) (i 1) (i 2))

/-- The same of arguments that equal the given ones. -/
theorem v110_of_eq {y0 : Feats} {y1 : Boxes} {y2 y3 : Ids} {y4 : Tab 50} {y5 : Tab 54} {y6 : Tab 4} {y7 : Wt 2048} {y9 : Wt 5}
    {y8 y10 y11 y12 y13 y14 y15 y16 y17 y18 : FVec Ideal Sv .f32}
    (e0 : y0 = x0) (e1 : y1 = x1) (e2 : y2 = x2) (e3 : y3 = x3) (e4 : y4 = x4) (e5 : y5 = x5) (e6 : y6 = x6) (e7 : y7 = x7) (e8 : y8 = x8) (e9 : y9 = x9)
    (e10 : y10 = x10) (e11 : y11 = x11) (e12 : y12 = x12) (e13 : y13 = x13) (e14 : y14 = x14) (e15 : y15 = x15) (e16 : y16 = x16) (e17 : y17 = x17) (e18 : y18 = x18) :
    val_main_v110 (F := Ideal) y0 y1 y2 y3 y4 y5 y6 y7 y8 y9 y10 y11 y12 y13 y14 y15 y16 y17 y18
      = fun i : S1024x89x1024.Idx => ((layer x0 x1 x2 x3 x4 x5 x6 x7 x9 (i 0) (i 1) (i 2) : ℝ) : EReal) := by
  rw [e0, e1, e2, e3, e4, e5, e6, e7, e8, e9, e10, e11, e12, e13, e14, e15, e16, e17, e18]
  exact v110_eq g

end Cert.Proof

end
-- ==== Proof.lean ====
module

public import proofs.«01_k».proof.Defs
public import proofs.«01_k».proof.Proof.Result
public import proofs.«01_k».proof.Proof.Layer
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_as_drawn
public import Idealize.ShloMosaic.Adequacy
public import Idealize.ShloMosaic.Init
public import Idealize.ShloMosaic.Lib.Quiescent
public import Idealize.ShloMosaic.Lib.Claim

/-! The claims, put together.

The frames of the kernel and the reference come from their runs.  For the values: under the precondition
every run of the kernel ends with the layer of its arguments in its result (`kernel_run`), and so does
every run of the reference (`v110_eq`). -/

@[expose] public section

noncomputable section

namespace Cert.Proof

open Idealize.ShloMosaic Idealize.SL.Sem

/-- The precondition, said of the arguments of every device. -/
theorem given_of_pre {m : (ℓ : Loc Cert.KernelIdeal.nD Cert.KernelIdeal.τ Cert.KernelIdeal.sig) → Buf (Elt Ideal) ℓ}
    (p : Cert.Pre_KernelIdeal_as_drawn m) (c : Dev Cert.KernelIdeal.nD) : GivenAt m c :=
  given_of_fn (p c)

/-- The reference leaves its arguments as they were, and every semaphore at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The result of the reference is the layer of the kernel's arguments, when it starts from the same ones. -/
theorem values : Cert.algebraic_KernelIdeal_ReferenceIdeal_pre_as_drawn := by
  intro m ρ m' ρ' p same
  refine ⟨layerArray m, ?_, ?_⟩
  · exact (θ_run Cert.KernelIdeal.defs _ _).mono (fun r h c => ⟨h.1 c, h.2 c⟩)
      (θ_run_and (kernel_run m ρ (given_of_pre p)) (Cert.KernelIdeal.Gen.unchanged m ρ))
  · refine (θ_run Cert.ReferenceIdeal.defs _ _).mono (fun r h c => ⟨(h c).1.trans ?_, (h c).2⟩)
      (Cert.ReferenceIdeal.Value.run m' ρ')
    refine (Cert.ReferenceIdeal.Read.val_main_v110_eq (StableHlo.launchContents m' c)).trans ?_
    obtain ⟨e0, e1, e2, e3, e4, e5, e6, e7, e8, e9, e10, e11, e12, e13, e14, e15, e16, e17, e18⟩ := same c
    exact v110_of_eq (given_of_pre p c) e0 e1 e2 e3 e4 e5 e6 e7 e8 e9 e10 e11 e12 e13 e14 e15 e16 e17 e18

theorem claim : Cert.Claim :=
  ⟨Cert.Kernel.Gen.facts, Cert.KernelIdeal.Gen.facts, Cert.ReferenceIdeal.Gen.facts, Cert.Pre_as_drawn.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, values⟩

end Cert.Proof

end
